-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_v6_0) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1536x16384 : Shape := ⟨3, ![6, 1536, 16384]⟩
abbrev S_ : Shape := ⟨0, ![]⟩
abbrev S6x1536x6144 : Shape := ⟨3, ![6, 1536, 6144]⟩
abbrev S16384x6144 : Shape := ⟨2, ![16384, 6144]⟩
abbrev S9216x16384 : Shape := ⟨2, ![9216, 16384]⟩
abbrev S9216x6144 : Shape := ⟨2, ![9216, 6144]⟩
abbrev S1 : Shape := ⟨1, ![1]⟩
abbrev S8x16384 : Shape := ⟨2, ![8, 16384]⟩
abbrev S512x4096 : Shape := ⟨2, ![512, 4096]⟩
abbrev S8x4096 : Shape := ⟨2, ![8, 4096]⟩
abbrev S64x8x4096 : Shape := ⟨3, ![64, 8, 4096]⟩
abbrev S1024x2048 : Shape := ⟨2, ![1024, 2048]⟩
abbrev S2048x2048 : Shape := ⟨2, ![2048, 2048]⟩
abbrev S1536x1024 : Shape := ⟨2, ![1536, 1024]⟩
abbrev S1024x1024 : Shape := ⟨2, ![1024, 1024]⟩
abbrev S16384 : Shape := ⟨1, ![16384]⟩

abbrev nBuf : Space → Nat
  | .hbm => 27
  | .vmem => 24
  | .smem => 3
  | _ => 0

abbrev bufTy : (tb : Table) → Fin (tcTables nBuf tb) → BufTy
  | .hbm, ⟨0, _⟩ => ⟨S6x1536x16384, .bf16⟩
  | .hbm, ⟨1, _⟩ => ⟨S_, .f32⟩
  | .hbm, ⟨2, _⟩ => ⟨S6x1536x6144, .fp8e4m3⟩
  | .hbm, ⟨3, _⟩ => ⟨S_, .f32⟩
  | .hbm, ⟨4, _⟩ => ⟨S16384x6144, .fp8e4m3⟩
  | .hbm, ⟨5, _⟩ => ⟨S_, .f32⟩
  | .hbm, ⟨6, _⟩ => ⟨S16384x6144, .f32⟩
  | .hbm, ⟨7, _⟩ => ⟨S9216x16384, .bf16⟩
  | .hbm, ⟨8, _⟩ => ⟨S9216x6144, .fp8e4m3⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S9216x16384, .fp8e5m2⟩
  | .hbm, ⟨13, _⟩ => ⟨S8x16384, .f32⟩
  | .hbm, ⟨14, _⟩ => ⟨S8x16384, .f32⟩
  | .hbm, ⟨15, _⟩ => ⟨S_, .f32⟩
  | .hbm, ⟨16, _⟩ => ⟨S1, .f32⟩
  | .hbm, ⟨17, _⟩ => ⟨S9216x6144, .bf16⟩
  | .hbm, ⟨18, _⟩ => ⟨S_, .f32⟩
  | .hbm, ⟨19, _⟩ => ⟨S1, .f32⟩
  | .hbm, ⟨20, _⟩ => ⟨S16384x6144, .f32⟩
  | .hbm, ⟨21, _⟩ => ⟨S6x1536x6144, .bf16⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S6x1536x16384, .fp8e5m2⟩
  | .local _ .vmem, ⟨0, _⟩ => ⟨S512x4096, .bf16⟩
  | .local _ .vmem, ⟨1, _⟩ => ⟨S512x4096, .bf16⟩
  | .local _ .vmem, ⟨2, _⟩ => ⟨S512x4096, .fp8e5m2⟩
  | .local _ .vmem, ⟨3, _⟩ => ⟨S512x4096, .fp8e5m2⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S1024x2048, .fp8e5m2⟩
  | .local _ .vmem, ⟨9, _⟩ => ⟨S1024x2048, .fp8e5m2⟩
  | .local _ .vmem, ⟨10, _⟩ => ⟨S2048x2048, .fp8e4m3⟩
  | .local _ .vmem, ⟨11, _⟩ => ⟨S2048x2048, .fp8e4m3⟩
  | .local _ .vmem, ⟨12, _⟩ => ⟨S1024x2048, .bf16⟩
  | .local _ .vmem, ⟨13, _⟩ => ⟨S1024x2048, .bf16⟩
  | .local _ .vmem, ⟨14, _⟩ => ⟨S1024x2048, .f32⟩
  | .local _ .vmem, ⟨15, _⟩ => ⟨S1536x1024, .fp8e5m2⟩
  | .local _ .vmem, ⟨16, _⟩ => ⟨S1536x1024, .fp8e5m2⟩
  | .local _ .vmem, ⟨17, _⟩ => ⟨S1536x1024, .fp8e4m3⟩
  | .local _ .vmem, ⟨18, _⟩ => ⟨S1536x1024, .fp8e4m3⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S6x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨2, ![4, 18], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨3, ![9, 3, 8], ![false, false, false]⟩

def k1_cond2 (i : grid1.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1024x2048 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S2048x2048 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![16, 6, 6], ![false, false, false]⟩

def k2_cond2 (i : grid2.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc2_transform_0 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false]

abbrev stage2_1 : Fin 2 → Memref sig .tc .vmem S1536x1024 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1536x1024 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]
-- ==== ReferenceIdeal.lean ====
abbrev S6x1536x16384 : Shape := ⟨3, ![6, 1536, 16384]⟩
abbrev S_ : Shape := ⟨0, ![]⟩
abbrev S6x1536x6144 : Shape := ⟨3, ![6, 1536, 6144]⟩
abbrev S16384x6144 : Shape := ⟨2, ![16384, 6144]⟩
abbrev S16384 : Shape := ⟨1, ![16384]⟩
abbrev S1 : Shape := ⟨1, ![1]⟩

abbrev nBuf : Space → Nat
  | .hbm => 30
  | .vmem => 7
  | .smem => 1
  | _ => 0

abbrev bufTy : (tb : Table) → Fin (tcTables nBuf tb) → BufTy
  | .hbm, ⟨0, _⟩ => ⟨S6x1536x16384, .bf16⟩
  | .hbm, ⟨1, _⟩ => ⟨S_, .f32⟩
  | .hbm, ⟨2, _⟩ => ⟨S6x1536x6144, .fp8e4m3⟩
  | .hbm, ⟨3, _⟩ => ⟨S_, .f32⟩
  | .hbm, ⟨4, _⟩ => ⟨S16384x6144, .fp8e4m3⟩
  | .hbm, ⟨5, _⟩ => ⟨S_, .f32⟩
  | .hbm, ⟨6, _⟩ => ⟨S16384x6144, .f32⟩
  | .hbm, ⟨7, _⟩ => ⟨S6x1536x16384, .f32⟩
  | .hbm, ⟨8, _⟩ => ⟨S6x1536x16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S6x1536x16384, .fp8e5m2⟩
  | .hbm, ⟨17, _⟩ => ⟨S6x1536x16384, .bf16⟩
  | .hbm, ⟨18, _⟩ => ⟨S16384x6144, .bf16⟩
  | .hbm, ⟨19, _⟩ => ⟨S6x1536x6144, .bf16⟩
  | .hbm, ⟨20, _⟩ => ⟨S6x1536x6144, .f32⟩
  | .hbm, ⟨21, _⟩ => ⟨S_, .f32⟩
  | .hbm, ⟨22, _⟩ => ⟨S6x1536x6144, .f32⟩
  | .hbm, ⟨23, _⟩ => ⟨S6x1536x6144, .f32⟩
  | .hbm, ⟨24, _⟩ => ⟨S6x1536x6144, .bf16⟩
  | .hbm, ⟨25, _⟩ => ⟨S16384x6144, .f32⟩
  | .hbm, ⟨26, _⟩ => ⟨S_, .f32⟩
  | .hbm, ⟨27, _⟩ => ⟨S16384x6144, .f32⟩
  | .hbm, ⟨28, _⟩ => ⟨S16384x6144, .f32⟩
  | .hbm, ⟨29, _⟩ => ⟨S16384x6144, .f32⟩
  | .local _ .vmem, ⟨0, _⟩ => ⟨S6x1536x16384, .f32⟩
  | .local _ .vmem, ⟨1, _⟩ => ⟨S16384x6144, .fp8e4m3⟩
  | .local _ .vmem, ⟨2, _⟩ => ⟨S6x1536x6144, .fp8e4m3⟩
  | .local _ .vmem, ⟨3, _⟩ => ⟨S6x1536x16384, .fp8e5m2⟩
  | .local _ .vmem, ⟨4, _⟩ => ⟨S6x1536x16384, .bf16⟩
  | .local _ .vmem, ⟨5, _⟩ => ⟨S16384x6144, .bf16⟩
  | .local _ .vmem, ⟨6, _⟩ => ⟨S6x1536x6144, .bf16⟩
  | .local _ .smem, ⟨0, _⟩ => ⟨S1, .f32⟩
  | _, _ => ⟨S6x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1536x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1536x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1536x16384 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1536x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1536x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Whole.Region0.lean ====
/- The quantise region at the contents `V` it is entered from: the body's triple in each case, what its outputs hold after each
   point, the pipeline's proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quantise` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 18) — by arithmetic of the point. -/
theorem hcond0_0 : ∀ t : Fin cfg0.N, cond0_0 (grid0.coords t) ↔ t.val % 18 = 0 :=
  (fun t => by
    have ht : t.val < 72 := Nat.lt_of_lt_of_eq t.isLt N_0
    have e0 : (grid0.coords t 0).val = t.val / 18 % 4 := Pipeline.Grid.coords_val t 0 (by decide) rfl
    have e1 : (grid0.coords t 1).val = t.val / 1 % 18 := Pipeline.Grid.coords_val t 1 (by decide) rfl
    simp only [cond0_0, e0, e1]
    word_cmp
   : ∀ t : Fin grid0.N, cond0_0 (grid0.coords t) ↔ t.val % 18 = 0)

/-! ## The kernel body on any staging memrefs: a subtype the run finds -/

/-- One staging buffer of output window 2, through which its contents are stated (`View.read_writes_of_cover`: the
    choice does not matter). -/
abbrev VO0_2 : View sig .tc .vmem S512x4096 .fp8e5m2 := (Memref.whole cc0_stg2_0 : Memref sig .tc .vmem S512x4096 .fp8e5m2).view
/-- One staging buffer of output window 3, through which its contents are stated (`View.read_writes_of_cover`: the
    choice does not matter). -/
abbrev VO0_3 : View sig .tc .vmem S8x4096 .f32 := (Memref.whole cc0_stg3_0 : Memref sig .tc .vmem S8x4096 .f32).view
/-- One staging buffer of output window 4, through which its contents are stated (`View.read_writes_of_cover`: the
    choice does not matter). -/
abbrev VO0_4 : View sig .tc .vmem S8x4096 .f32 := (Memref.whole cc0_stg4_0 : Memref sig .tc .vmem S8x4096 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x4096 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken: points 0, 18, 36, 54), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : cond0_0 i)
    (x0 : Vec F S1 .f32) (x1 : Vec F S512x4096 .bf16) :
    Σ' (L2 : List (View.Piece (Elt F) S512x4096 .fp8e5m2)), Σ' (L3 : List (View.Piece (Elt F) S8x4096 .f32)), { L4 : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_quantise i arg2 harg2 arg3 harg3 arg4 harg4 arg5 harg5 arg6 harg6) K } := by
  refine ⟨?_, ?_, ?_, fun E K => ?run⟩
  case run =>
    simp only [cc0_quantise_eq_skeleton]; unfold cc0_quantise_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-- Case A's pieces for output 2 tile its block (1 store of `S512x4096`, checked by the kernel's evaluation: Lib/Ring.lean `Piece.tiledL`, linear in the pieces, through a loop's `@[irreducible]` trip theorem too), so they cover it. -/
theorem cover0_A_2 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : cond0_0 i)
    (x0 : Vec F S1 .f32) (x1 : Vec F S512x4096 .bf16) (y : S512x4096.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S512x4096.size (by sl_kernel_rfl) y

/-- What case A leaves in output 2's staging buffer: its pieces read back over junk. -/
def out0_A_2 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : cond0_0 i)
    (x0 : Vec F S1 .f32) (x1 : Vec F S512x4096 .bf16) : Vec F S512x4096 .fp8e5m2 :=
  VO0_2.read (Elt F) (VO0_2.writes (Elt F) VO0_2.junk (kernelRun0_A c i arg2 harg2 arg3 harg3 arg4 harg4 arg5 harg5 arg6 harg6 hc0 x0 x1).1)

/-- Case A's pieces for output 3 tile its block (2 stores of `S8x4096`, checked by the kernel's evaluation: Lib/Ring.lean `Piece.tiledL`, linear in the pieces, through a loop's `@[irreducible]` trip theorem too), so they cover it. -/
theorem cover0_A_3 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : cond0_0 i)
    (x0 : Vec F S1 .f32) (x1 : Vec F S512x4096 .bf16) (y : S8x4096.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S8x4096.size (by sl_kernel_rfl) y

/-- What case A leaves in output 3's staging buffer: its pieces read back over junk. -/
def out0_A_3 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : cond0_0 i)
    (x0 : Vec F S1 .f32) (x1 : Vec F S512x4096 .bf16) : Vec F S8x4096 .f32 :=
  VO0_3.read (Elt F) (VO0_3.writes (Elt F) VO0_3.junk (kernelRun0_A c i arg2 harg2 arg3 harg3 arg4 harg4 arg5 harg5 arg6 harg6 hc0 x0 x1).2.1)

/-- Case A's pieces for output 4 tile its block (2 stores of `S8x4096`, checked by the kernel's evaluation: Lib/Ring.lean `Piece.tiledL`, linear in the pieces, through a loop's `@[irreducible]` trip theorem too), so they cover it. -/
theorem cover0_A_4 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : cond0_0 i)
    (x0 : Vec F S1 .f32) (x1 : Vec F S512x4096 .bf16) (y : S8x4096.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S8x4096.size (by sl_kernel_rfl) y

/-- What case A leaves in output 4's staging buffer: its pieces read back over junk. -/
def out0_A_4 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : cond0_0 i)
    (x0 : Vec F S1 .f32) (x1 : Vec F S512x4096 .bf16) : Vec F S8x4096 .f32 :=
  VO0_4.read (Elt F) (VO0_4.writes (Elt F) VO0_4.junk (kernelRun0_A c i arg2 harg2 arg3 harg3 arg4 harg4 arg5 harg5 arg6 harg6 hc0 x0 x1).2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 71: 68 of 72), WITH the
    proof that on whole staging memrefs — the inputs' at their contents, the outputs it reads before covering (3, 4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : ¬cond0_0 i)
    (x0 : Vec F S1 .f32) (x1 : Vec F S512x4096 .bf16) (xo3 : Vec F S8x4096 .f32) (xo4 : Vec F S8x4096 .f32) :
    Σ' (L2 : List (View.Piece (Elt F) S512x4096 .fp8e5m2)), Σ' (L3 : List (View.Piece (Elt F) S8x4096 .f32)), { L4 : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3 ∗ owns (c : Thread nD τ) arg6 fullShare xo4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_quantise i arg2 harg2 arg3 harg3 arg4 harg4 arg5 harg5 arg6 harg6) K } := by
  refine ⟨?_, ?_, ?_, fun E K => ?run⟩
  case run =>
    simp only [cc0_quantise_eq_skeleton]; unfold cc0_quantise_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg2.eq_unread hf0; obtain rfl := harg3.eq_unread hf1; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-- Case B's pieces for output 2 tile its block (1 store of `S512x4096`, checked by the kernel's evaluation: Lib/Ring.lean `Piece.tiledL`, linear in the pieces, through a loop's `@[irreducible]` trip theorem too), so they cover it. -/
theorem cover0_B_2 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : ¬cond0_0 i)
    (x0 : Vec F S1 .f32) (x1 : Vec F S512x4096 .bf16) (xo3 : Vec F S8x4096 .f32) (xo4 : Vec F S8x4096 .f32) (y : S512x4096.Idx) :
    ∃ pc ∈ (kernelRun0_B c i arg2 harg2 arg3 harg3 arg4 harg4 arg5 harg5 arg6 harg6 hc0 x0 x1 xo3 xo4).1, y ∈ pc.1.set :=
  View.cover_of_tiledL (kernelRun0_B c i arg2 harg2 arg3 harg3 arg4 harg4 arg5 harg5 arg6 harg6 hc0 x0 x1 xo3 xo4).1 S512x4096.size (by sl_kernel_rfl) y

/-- What case B leaves in output 2's staging buffer: its pieces read back over junk. -/
def out0_B_2 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : ¬cond0_0 i)
    (x0 : Vec F S1 .f32) (x1 : Vec F S512x4096 .bf16) (xo3 : Vec F S8x4096 .f32) (xo4 : Vec F S8x4096 .f32) : Vec F S512x4096 .fp8e5m2 :=
  VO0_2.read (Elt F) (VO0_2.writes (Elt F) VO0_2.junk (kernelRun0_B c i arg2 harg2 arg3 harg3 arg4 harg4 arg5 harg5 arg6 harg6 hc0 x0 x1 xo3 xo4).1)

/-- Case B's pieces for output 3 tile its block (1 store of `S8x4096`, checked by the kernel's evaluation: Lib/Ring.lean `Piece.tiledL`, linear in the pieces, through a loop's `@[irreducible]` trip theorem too), so they cover it. -/
theorem cover0_B_3 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : ¬cond0_0 i)
    (x0 : Vec F S1 .f32) (x1 : Vec F S512x4096 .bf16) (xo3 : Vec F S8x4096 .f32) (xo4 : Vec F S8x4096 .f32) (y : S8x4096.Idx) :
    ∃ pc ∈ (kernelRun0_B c i arg2 harg2 arg3 harg3 arg4 harg4 arg5 harg5 arg6 harg6 hc0 x0 x1 xo3 xo4).2.1, y ∈ pc.1.set :=
  View.cover_of_tiledL (kernelRun0_B c i arg2 harg2 arg3 harg3 arg4 harg4 arg5 harg5 arg6 harg6 hc0 x0 x1 xo3 xo4).2.1 S8x4096.size (by sl_kernel_rfl) y

/-- What case B leaves in output 3's staging buffer: its pieces read back over junk. -/
def out0_B_3 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : ¬cond0_0 i)
    (x0 : Vec F S1 .f32) (x1 : Vec F S512x4096 .bf16) (xo3 : Vec F S8x4096 .f32) (xo4 : Vec F S8x4096 .f32) : Vec F S8x4096 .f32 :=
  VO0_3.read (Elt F) (VO0_3.writes (Elt F) VO0_3.junk (kernelRun0_B c i arg2 harg2 arg3 harg3 arg4 harg4 arg5 harg5 arg6 harg6 hc0 x0 x1 xo3 xo4).2.1)

/-- Case B's pieces for output 4 tile its block (1 store of `S8x4096`, checked by the kernel's evaluation: Lib/Ring.lean `Piece.tiledL`, linear in the pieces, through a loop's `@[irreducible]` trip theorem too), so they cover it. -/
theorem cover0_B_4 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : ¬cond0_0 i)
    (x0 : Vec F S1 .f32) (x1 : Vec F S512x4096 .bf16) (xo3 : Vec F S8x4096 .f32) (xo4 : Vec F S8x4096 .f32) (y : S8x4096.Idx) :
    ∃ pc ∈ (kernelRun0_B c i arg2 harg2 arg3 harg3 arg4 harg4 arg5 harg5 arg6 harg6 hc0 x0 x1 xo3 xo4).2.2.1, y ∈ pc.1.set :=
  View.cover_of_tiledL (kernelRun0_B c i arg2 harg2 arg3 harg3 arg4 harg4 arg5 harg5 arg6 harg6 hc0 x0 x1 xo3 xo4).2.2.1 S8x4096.size (by sl_kernel_rfl) y

/-- What case B leaves in output 4's staging buffer: its pieces read back over junk. -/
def out0_B_4 (c : Dev nD) (i : grid0.Coords) (arg2 : Memref sig .tc .smem S1 .f32) (harg2 : arg2.IsWhole) (arg3 : Memref sig .tc .vmem S512x4096 .bf16) (harg3 : arg3.IsWhole) (arg4 : Memref sig .tc .vmem S512x4096 .fp8e5m2) (harg4 : arg4.IsWhole) (arg5 : Memref sig .tc .vmem S8x4096 .f32) (harg5 : arg5.IsWhole) (arg6 : Memref sig .tc .vmem S8x4096 .f32) (harg6 : arg6.IsWhole) (hc0 : ¬cond0_0 i)
    (x0 : Vec F S1 .f32) (x1 : Vec F S512x4096 .bf16) (xo3 : Vec F S8x4096 .f32) (xo4 : Vec F S8x4096 .f32) : Vec F S8x4096 .f32 :=
  VO0_4.read (Elt F) (VO0_4.writes (Elt F) VO0_4.junk (kernelRun0_B c i arg2 harg2 arg3 harg3 arg4 harg4 arg5 harg5 arg6 harg6 hc0 x0 x1 xo3 xo4).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x4096 .fp8e5m2 × Vec F S8x4096 .f32 × Vec F S8x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩))
  | n + 1, hn =>
    if h0 : (n + 1) % 18 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 18 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 18 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point of case B output 3's current staging buffer holds what the body left at the point before: the point is
    not the first, the buffer was not written back between (`flush0_3`), the window is live and uncut (Lib/Pipeline/Frame.lean
    `Dat.before_out_kept`). -/
theorem before0_3_B (c : Dev nD) (t : Fin cfg0.N) (h0 : ¬t.val % 18 = 0) (d) :
    (dat0 V c).before 3 t d = (outsAt0 V c (t.val - 1) (Nat.lt_of_le_of_lt (Nat.sub_le _ _) t.isLt)).2.1 := by
  have hN : t.val < 72 := lt_of_lt_of_eq t.isLt (show cfg0.N = 72 from N_0)
  rw [Dat.before_out_kept _ 3 rfl t (by omega) (Bool.eq_false_iff.mpr fun h => by have := (flush0_3 _).mp h; dsimp only at this; omega)
    (fun _ => rfl) (fun _ _ => rfl)]
  dsimp only [dat0]
/-- At a point of case B output 4's current staging buffer holds what the body left at the point before: the point is
    not the first, the buffer was not written back between (`flush0_4`), the window is live and uncut (Lib/Pipeline/Frame.lean
    `Dat.before_out_kept`). -/
theorem before0_4_B (c : Dev nD) (t : Fin cfg0.N) (h0 : ¬t.val % 18 = 0) (d) :
    (dat0 V c).before 4 t d = (outsAt0 V c (t.val - 1) (Nat.lt_of_le_of_lt (Nat.sub_le _ _) t.isLt)).2.2 := by
  have hN : t.val < 72 := lt_of_lt_of_eq t.isLt (show cfg0.N = 72 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 72 := lt_of_lt_of_eq t.isLt (show cfg0.N = 72 from N_0)
  by_cases h0 : t.val % 18 = 0
  · rw [outsAt0_A V c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B V c t h0]
    simp only [before0_3_B V c t h0, before0_4_B V c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.Whole.Region1.lean ====
/- The input-gradient region at the contents `V` it is entered from: the body's triple in each case, what its output and its
   accumulator hold after each point, the pipeline's proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_dgrad` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 216 := Nat.lt_of_lt_of_eq t.isLt N_1
    have e0 : (grid1.coords t 0).val = t.val / 24 % 9 := Pipeline.Grid.coords_val t 0 (by decide) rfl
    have e1 : (grid1.coords t 1).val = t.val / 8 % 3 := Pipeline.Grid.coords_val t 1 (by decide) rfl
    have e2 : (grid1.coords t 2).val = t.val / 1 % 8 := Pipeline.Grid.coords_val t 2 (by decide) rfl
    simp only [cond1_0, e0, e1, e2]
    word_cmp
   : ∀ t : Fin grid1.N, cond1_0 (grid1.coords t) ↔ t.val % 8 = 0)

/-- The condition of the body's `scf.if` 1 (`k1_h2`), from the grid coordinates (the skeleton's scalar
    chain substituted). -/
abbrev cond1_1 (i : grid1.Coords) : Prop := k1_cond2 i = 1#1
/-- It holds at the points ≡ 7 (mod 8) — by arithmetic of the point. -/
theorem hcond1_1 : ∀ t : Fin cfg1.N, cond1_1 (grid1.coords t) ↔ t.val % 8 = 7 :=
  (fun t => by
    have ht : t.val < 216 := Nat.lt_of_lt_of_eq t.isLt N_1
    have e0 : (grid1.coords t 0).val = t.val / 24 % 9 := Pipeline.Grid.coords_val t 0 (by decide) rfl
    have e1 : (grid1.coords t 1).val = t.val / 8 % 3 := Pipeline.Grid.coords_val t 1 (by decide) rfl
    have e2 : (grid1.coords t 2).val = t.val / 1 % 8 := Pipeline.Grid.coords_val t 2 (by decide) rfl
    simp only [cond1_1, k1_cond2, e0, e1, e2]
    word_cmp
   : ∀ t : Fin grid1.N, cond1_1 (grid1.coords t) ↔ t.val % 8 = 7)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1024x2048 .bf16 := (Memref.whole cc1_stg3_0 : Memref sig .tc .vmem S1024x2048 .bf16).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .fp8e5m2 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x2048 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1024x2048 .f32 := Memref.whole cc1_scratch0
/-- The scratch `arg7` the kernel carries between points, as a view: what it holds is stated through it. -/
abbrev VS1_0 : View sig .tc .vmem S1024x2048 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc2_stg0_0), ((c : Thread nD τ).loc cc2_stg0_0) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, … 208: 27 of 216), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1 .f32) (x1 : Vec F S1024x2048 .fp8e5m2) (x2 : Vec F S2048x2048 .fp8e4m3) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_dgrad i arg3 harg3 arg4 harg4 arg5 harg5 arg6 harg6 arg7 harg7) K } := by
  refine ⟨[], ?_, fun xi3 E K => ?run⟩
  case run =>
    simp only [cc1_dgrad_eq_skeleton]; unfold cc1_dgrad_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Case A stores nothing into output 3 (the window is idle at its points and not written back there):
    no pieces — a placeholder (junk read back) that nothing consults, since at these points the window is neither
    written back nor read at the next point (Lib/Pipeline.lean "Idle points"). -/
def out1_A_3 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1 .f32) (x1 : Vec F S1024x2048 .fp8e5m2) (x2 : Vec F S2048x2048 .fp8e4m3) : Vec F S1024x2048 .bf16 :=
  VO1_3.read (Elt F) (VO1_3.writes (Elt F) VO1_3.junk (kernelRun1_A c i arg3 harg3 arg4 harg4 arg5 harg5 arg6 harg6 arg7 harg7 hc0 hc1 x0 x1 x2).1)

/-- Case A's pieces for scratch `arg7`, which the kernel carries between points, cover it: 2 pieces of `S1024x2048` tiling it (Lib/Ring.lean `Piece.tiledL`). -/
theorem scover1_A_0 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1 .f32) (x1 : Vec F S1024x2048 .fp8e5m2) (x2 : Vec F S2048x2048 .fp8e4m3) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What case A leaves in scratch `arg7`: its pieces read back over junk. -/
def sout1_A_0 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1 .f32) (x1 : Vec F S1024x2048 .fp8e5m2) (x2 : Vec F S2048x2048 .fp8e4m3) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 214: 162 of 216), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1 .f32) (x1 : Vec F S1024x2048 .fp8e5m2) (x2 : Vec F S2048x2048 .fp8e4m3) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_dgrad i arg3 harg3 arg4 harg4 arg5 harg5 arg6 harg6 arg7 harg7) K } := by
  refine ⟨[], ?_, fun xi3 E K => ?run⟩
  case run =>
    simp only [cc1_dgrad_eq_skeleton]; unfold cc1_dgrad_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Case B stores nothing into output 3 (the window is idle at its points and not written back there):
    no pieces — a placeholder (junk read back) that nothing consults, since at these points the window is neither
    written back nor read at the next point (Lib/Pipeline.lean "Idle points"). -/
def out1_B_3 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1 .f32) (x1 : Vec F S1024x2048 .fp8e5m2) (x2 : Vec F S2048x2048 .fp8e4m3) (xs0 : Vec F S1024x2048 .f32) : Vec F S1024x2048 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for scratch `arg7`, which the kernel carries between points, cover it: 1 piece of `S1024x2048` tiling it (Lib/Ring.lean `Piece.tiledL`). -/
theorem scover1_B_0 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1 .f32) (x1 : Vec F S1024x2048 .fp8e5m2) (x2 : Vec F S2048x2048 .fp8e4m3) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What case B leaves in scratch `arg7`: its pieces read back over junk. -/
def sout1_B_0 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1 .f32) (x1 : Vec F S1024x2048 .fp8e5m2) (x2 : Vec F S2048x2048 .fp8e4m3) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7, 15, … 215: 27 of 216), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1 .f32) (x1 : Vec F S1024x2048 .fp8e5m2) (x2 : Vec F S2048x2048 .fp8e4m3) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_dgrad i arg3 harg3 arg4 harg4 arg5 harg5 arg6 harg6 arg7 harg7) K } := by
  refine ⟨?_, ?_, fun E K => ?run⟩
  case run =>
    simp only [cc1_dgrad_eq_skeleton]; unfold cc1_dgrad_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- Case C's pieces for output 3 tile its block (1 store of `S1024x2048`, checked by the kernel's evaluation: Lib/Ring.lean `Piece.tiledL`, linear in the pieces, through a loop's `@[irreducible]` trip theorem too), so they cover it. -/
theorem cover1_C_3 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1 .f32) (x1 : Vec F S1024x2048 .fp8e5m2) (x2 : Vec F S2048x2048 .fp8e4m3) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What case C leaves in output 3's staging buffer: its pieces read back over junk. -/
def out1_C_3 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1 .f32) (x1 : Vec F S1024x2048 .fp8e5m2) (x2 : Vec F S2048x2048 .fp8e4m3) (xs0 : Vec F S1024x2048 .f32) : Vec F S1024x2048 .bf16 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for scratch `arg7`, which the kernel carries between points, cover it: 1 piece of `S1024x2048` tiling it (Lib/Ring.lean `Piece.tiledL`). -/
theorem scover1_C_0 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1 .f32) (x1 : Vec F S1024x2048 .fp8e5m2) (x2 : Vec F S2048x2048 .fp8e4m3) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What case C leaves in scratch `arg7`: its pieces read back over junk. -/
def sout1_C_0 (c : Dev nD) (i : grid1.Coords) (arg3 : Memref sig .tc .smem S1 .f32) (harg3 : arg3.IsWhole) (arg4 : Memref sig .tc .vmem S1024x2048 .fp8e5m2) (harg4 : arg4.IsWhole) (arg5 : Memref sig .tc .vmem S2048x2048 .fp8e4m3) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1 .f32) (x1 : Vec F S1024x2048 .fp8e5m2) (x2 : Vec F S2048x2048 .fp8e4m3) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x2048 .bf16 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by have hN : n + 1 < 216 := lt_of_lt_of_eq hn (show cfg1.N = 216 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS_r1 (c : Dev nD) : (n : ℕ) → n ≤ cfg1.N → sProp 𝕄
  | 0, _ => Pipeline.ΦA spec1 c
  | n + 1, hn => iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc2_stg0_0), ((c : Thread nD τ).loc cc2_stg0_0) ↦{fullShare} f)) ∗ (∃ r, prngReg c r))

theorem PhiS_zero_r1 (c : Dev nD) (n : ℕ) (h : n ≤ cfg1.N) (hz : n = 0) : PhiS_r1 V c n h = Pipeline.ΦA spec1 c := by
  subst hz; rfl

/-- After point `n` (before point `n + 1`): the carried scratch at that point's contents. -/
theorem PhiS_succ_r1 (c : Dev nD) (n : ℕ) (hn : n < cfg1.N) :
    PhiS_r1 V c (n + 1) hn = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc2_stg0_0), ((c : Thread nD τ).loc cc2_stg0_0) ↦{fullShare} f)) ∗ (∃ r, prngReg c r)) := rfl

/-- Before a point that is not the first: the carried scratch at what the point before left. -/
theorem PhiS_pos_r1 (c : Dev nD) (n : ℕ) (h : n ≤ cfg1.N) (hz : n ≠ 0) :
    PhiS_r1 V c n h = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc2_stg0_0), ((c : Thread nD τ).loc cc2_stg0_0) ↦{fullShare} f)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS_r1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS_r1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc_r1 (c : Dev nD) (t : Fin cfg1.N) :
    (dat1 V c).Φ t.castSucc = PhiS_r1 V c t.val (Nat.le_of_lt t.isLt) := by
  dsimp only [dat1]; exact Pipeline.Dat.Φ_castSucc (PhiS_r1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos_r1`; at anything at the first point, `PhiS_zero_r1`), the other scratch buffers and the generator register at some state, and takes the carried scratch back at this point's contents (`PhiS_succ_r1`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS_r1 V c (t.val + 1) t.isLt from rfl, PhiS_succ_r1]
  have hN : t.val < 216 := lt_of_lt_of_eq t.isLt (show cfg1.N = 216 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      by_cases hz : t.val = 0
      · rw [PhiS_castSucc_r1 V c t, PhiS_zero_r1 V c _ _ hz, PhiA1_eq]
        rw [outsAt1_A V c t h0 h1]
        unfold sout1_A_0; (try dsimp only)
        iintro ⟨⟨⟨HR0, HR1, HR2, HR3, HR4, HR5, HR6, HR7, HS0, HR9, HR10, HR11, HR12, HR13, HR14, HR15, HR16, HR17, HR18, HR19⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HS0 HR9 HR10 HR11 HR12 HR13 HR14 HR15 HR16 HR17 HR18 HR19 Hg]
        · isplitl [HR0 HR1 HR2 HR3 HR4 HR5 HR6 HR7 HS0 HR9 HR10 HR11 HR12 HR13 HR14 HR15 HR16 HR17 HR18 HR19]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_A_0 c _ _ _ _ _ _ _ _ _ _ _ _ _ _ _ _)
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            iexact HR19
          iexact Hg
        isplitl [Ho]; · iexact Ho
        isplitl [H0]; · iexact H0
        isplitl [H1]; · iexact H1
        isplitl [H2]; · iexact H2
        iexists _; iexact H3
      · rw [PhiS_castSucc_r1 V c t, PhiS_pos_r1 V c _ _ hz]
        rw [outsAt1_A V c t h0 h1]
        unfold sout1_A_0; (try dsimp only)
        iintro ⟨⟨⟨HR0, HR1, HR2, HR3, HR4, HR5, HR6, HR7, HS0, HR9, HR10, HR11, HR12, HR13, HR14, HR15, HR16, HR17, HR18, HR19⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HS0 HR9 HR10 HR11 HR12 HR13 HR14 HR15 HR16 HR17 HR18 HR19 Hg]
        · isplitl [HR0 HR1 HR2 HR3 HR4 HR5 HR6 HR7 HS0 HR9 HR10 HR11 HR12 HR13 HR14 HR15 HR16 HR17 HR18 HR19]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_A_0 c _ _ _ _ _ _ _ _ _ _ _ _ _ _ _ _)
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            iexact HR19
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      by_cases hz : t.val = 0
      · exfalso; have hN : t.val < 216 := lt_of_lt_of_eq t.isLt (show cfg1.N = 216 from N_1); omega
      · rw [PhiS_castSucc_r1 V c t, PhiS_pos_r1 V c _ _ hz]
        rw [outsAt1_C V c t h0 h1]
        unfold out1_C_3 sout1_C_0; (try dsimp only)
        iintro ⟨⟨⟨HR0, HR1, HR2, HR3, HR4, HR5, HR6, HR7, HS0, HR9, HR10, HR11, HR12, HR13, HR14, HR15, HR16, HR17, HR18, HR19⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HS0 HR9 HR10 HR11 HR12 HR13 HR14 HR15 HR16 HR17 HR18 HR19 Hg]
        · isplitl [HR0 HR1 HR2 HR3 HR4 HR5 HR6 HR7 HS0 HR9 HR10 HR11 HR12 HR13 HR14 HR15 HR16 HR17 HR18 HR19]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_C_0 c _ _ _ _ _ _ _ _ _ _ _ _ _ _ _ _ _)
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            iexact HR19
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      by_cases hz : t.val = 0
      · exfalso; have hN : t.val < 216 := lt_of_lt_of_eq t.isLt (show cfg1.N = 216 from N_1); omega
      · rw [PhiS_castSucc_r1 V c t, PhiS_pos_r1 V c _ _ hz]
        rw [outsAt1_B V c t h0 h1]
        unfold sout1_B_0; (try dsimp only)
        iintro ⟨⟨⟨HR0, HR1, HR2, HR3, HR4, HR5, HR6, HR7, HS0, HR9, HR10, HR11, HR12, HR13, HR14, HR15, HR16, HR17, HR18, HR19⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HS0 HR9 HR10 HR11 HR12 HR13 HR14 HR15 HR16 HR17 HR18 HR19 Hg]
        · isplitl [HR0 HR1 HR2 HR3 HR4 HR5 HR6 HR7 HS0 HR9 HR10 HR11 HR12 HR13 HR14 HR15 HR16 HR17 HR18 HR19]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_B_0 c _ _ _ _ _ _ _ _ _ _ _ _ _ _ _ _ _)
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            iexact HR19
          iexact Hg
        isplitl [Ho]; · iexact Ho
        isplitl [H0]; · iexact H0
        isplitl [H1]; · iexact H1
        isplitl [H2]; · iexact H2
        iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin_r1 (c : Dev nD) : Pipeline.ΦA spec1 c ⊢ (dat1 V c).Φ 0 := by
  rw [show (dat1 V c).Φ 0 = PhiS_r1 V c 0 (Nat.zero_le _) from rfl, PhiS_zero_r1 V c 0 _ rfl]
  try exact Idealize.SL.BI.Entails.refl _

/-- After any point but the first the invariant gives `ΦA` back: the carried scratch's named contents are forgotten. -/
theorem Phi_out_r1 (c : Dev nD) (t : Fin (cfg1.N + 1)) (ht : t.val ≠ 0) : (dat1 V c).Φ t ⊢ Pipeline.ΦA spec1 c := by
  rw [show (dat1 V c).Φ t = PhiS_r1 V c t.val (Nat.le_of_lt_succ t.isLt) from rfl, PhiS_pos_r1 V c _ _ ht, PhiA1_eq]
  iintro ⟨⟨HR0, HR1, HR2, HR3, HR4, HR5, HR6, HR7, HS0, HR9, HR10, HR11, HR12, HR13, HR14, HR15, HR16, HR17, HR18, HR19⟩, Hg⟩
  isplitl [HR0 HR1 HR2 HR3 HR4 HR5 HR6 HR7 HS0 HR9 HR10 HR11 HR12 HR13 HR14 HR15 HR16 HR17 HR18 HR19]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexists _; iexact HS0
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    iexact HR19
  iexact Hg

/-- The same after the last point. -/
theorem hout_r1 (c : Dev nD) : (dat1 V c).Φ (Fin.last cfg1.N) ⊢ Pipeline.ΦA spec1 c :=
  Phi_out_r1 V c _ (by rw [Fin.val_last]; have : cfg1.N = 216 := N_1; omega)

end Regions

end Cert.KernelIdeal.Whole

end
-- ==== Proof.Whole.Region2.lean ====
/- The weight-gradient region at the contents `V` it is entered from: the body's triple in each case, what its output and its
   accumulator hold after each point, the pipeline's proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_wgrad` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 2).val) 0#32)) 0#32) = 1#1
/-- It holds at the points ≡ 0 (mod 6) — by arithmetic of the point. -/
theorem hcond2_0 : ∀ t : Fin cfg2.N, cond2_0 (grid2.coords t) ↔ t.val % 6 = 0 :=
  (fun t => by
    have ht : t.val < 576 := Nat.lt_of_lt_of_eq t.isLt N_2
    have e0 : (grid2.coords t 0).val = t.val / 36 % 16 := Pipeline.Grid.coords_val t 0 (by decide) rfl
    have e1 : (grid2.coords t 1).val = t.val / 6 % 6 := Pipeline.Grid.coords_val t 1 (by decide) rfl
    have e2 : (grid2.coords t 2).val = t.val / 1 % 6 := Pipeline.Grid.coords_val t 2 (by decide) rfl
    simp only [cond2_0, e0, e1, e2]
    word_cmp
   : ∀ t : Fin grid2.N, cond2_0 (grid2.coords t) ↔ t.val % 6 = 0)

/-- The condition of the body's `scf.if` 1 (`k2_h2`), from the grid coordinates (the skeleton's scalar
    chain substituted). -/
abbrev cond2_1 (i : grid2.Coords) : Prop := k2_cond2 i = 1#1
/-- It holds at the points ≡ 5 (mod 6) — by arithmetic of the point. -/
theorem hcond2_1 : ∀ t : Fin cfg2.N, cond2_1 (grid2.coords t) ↔ t.val % 6 = 5 :=
  (fun t => by
    have ht : t.val < 576 := Nat.lt_of_lt_of_eq t.isLt N_2
    have e0 : (grid2.coords t 0).val = t.val / 36 % 16 := Pipeline.Grid.coords_val t 0 (by decide) rfl
    have e1 : (grid2.coords t 1).val = t.val / 6 % 6 := Pipeline.Grid.coords_val t 1 (by decide) rfl
    have e2 : (grid2.coords t 2).val = t.val / 1 % 6 := Pipeline.Grid.coords_val t 2 (by decide) rfl
    simp only [cond2_1, k2_cond2, e0, e1, e2]
    word_cmp
   : ∀ t : Fin grid2.N, cond2_1 (grid2.coords t) ↔ t.val % 6 = 5)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- At the points of case A the printed configuration (`Cfg.idle`) calls output 4 idle: the case stores nothing into it. -/
theorem idleAt2_4_A : ∀ t : Fin cfg2.N, cond2_0 (grid2.coords t) → ¬cond2_1 (grid2.coords t) → cfg2.idle 4 (grid2.coords t) = true := by decide +kernel
/-- At the points of case A the pipeline does not write output 4's block back. -/
theorem noFlush2_4_A : ∀ t : Fin cfg2.N, cond2_0 (grid2.coords t) → ¬cond2_1 (grid2.coords t) → (cfg2.win 4).flush t = false := by decide +kernel
/-- At the points of case B the printed configuration (`Cfg.idle`) calls output 4 idle: the case stores nothing into it. -/
theorem idleAt2_4_B : ∀ t : Fin cfg2.N, ¬cond2_0 (grid2.coords t) → ¬cond2_1 (grid2.coords t) → cfg2.idle 4 (grid2.coords t) = true := by decide +kernel
/-- At the points of case B the pipeline does not write output 4's block back. -/
theorem noFlush2_4_B : ∀ t : Fin cfg2.N, ¬cond2_0 (grid2.coords t) → ¬cond2_1 (grid2.coords t) → (cfg2.win 4).flush t = false := by decide +kernel
/-- At the points of case C the printed configuration (`Cfg.idle`) calls output 4 live: the case stores into it. -/
theorem liveAt2_4_C : ∀ t : Fin cfg2.N, ¬cond2_0 (grid2.coords t) → cond2_1 (grid2.coords t) → cfg2.idle 4 (grid2.coords t) = false := by decide +kernel

/-! ## The kernel body on any staging memrefs: a subtype the run finds -/

/-- One staging buffer of output window 4, through which its contents are stated (`View.read_writes_of_cover`: the
    choice does not matter). -/
abbrev VO2_4 : View sig .tc .vmem S1024x1024 .f32 := (Memref.whole cc2_stg4_0 : Memref sig .tc .vmem S1024x1024 .f32).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1536x1024 .fp8e5m2 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1536x1024 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The scratch operands: whole scoped buffers of the kernel's own, passed beside the windows. -/
abbrev scM2_0 : Memref sig .tc .vmem S1024x1024 .f32 := Memref.whole cc2_scratch0
/-- The scratch `arg8` the kernel carries between points, as a view: what it holds is stated through it. -/
abbrev VS2_0 : View sig .tc .vmem S1024x1024 .f32 := scM2_0.view

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ d, owns (c : Thread nD τ) scM2_0 fullShare d) ∗ (∃ f : Buf (Elt F) ((c : Thread nD τ).loc cc0_stg0_0), ((c : Thread nD τ).loc cc0_stg0_0) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest2_eq]; simp only [scM2_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 6, … 570: 96 of 576), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1 .f32) (x1 : Vec F S1536x1024 .fp8e5m2) (x2 : Vec F S1536x1024 .fp8e4m3) (x3 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2_wgrad i arg3 harg3 arg4 harg4 arg5 harg5 arg6 harg6 arg7 harg7 arg8 harg8) K } := by
  refine ⟨[], ?_, fun xi4 E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case A stores nothing into output 4 (the window is idle at its points and not written back there):
    no pieces — a placeholder (junk read back) that nothing consults, since at these points the window is neither
    written back nor read at the next point (Lib/Pipeline.lean "Idle points"). -/
def out2_A_4 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1 .f32) (x1 : Vec F S1536x1024 .fp8e5m2) (x2 : Vec F S1536x1024 .fp8e4m3) (x3 : Vec F S1024x1024 .f32) : Vec F S1024x1024 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)

/-- Case A's pieces for scratch `arg8`, which the kernel carries between points, cover it: 2 pieces of `S1024x1024` tiling it (Lib/Ring.lean `Piece.tiledL`). -/
theorem scover2_A_0 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1 .f32) (x1 : Vec F S1536x1024 .fp8e5m2) (x2 : Vec F S1536x1024 .fp8e4m3) (x3 : Vec F S1024x1024 .f32) (y : S1024x1024.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x1024.size (by sl_kernel_rfl) y

/-- What case A leaves in scratch `arg8`: its pieces read back over junk. -/
def sout2_A_0 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1 .f32) (x1 : Vec F S1536x1024 .fp8e5m2) (x2 : Vec F S1536x1024 .fp8e4m3) (x3 : Vec F S1024x1024 .f32) : Vec F S1024x1024 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 574: 384 of 576), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1 .f32) (x1 : Vec F S1536x1024 .fp8e5m2) (x2 : Vec F S1536x1024 .fp8e4m3) (x3 : Vec F S1024x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2_wgrad i arg3 harg3 arg4 harg4 arg5 harg5 arg6 harg6 arg7 harg7 arg8 harg8) K } := by
  refine ⟨[], ?_, fun xi4 E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case B stores nothing into output 4 (the window is idle at its points and not written back there):
    no pieces — a placeholder (junk read back) that nothing consults, since at these points the window is neither
    written back nor read at the next point (Lib/Pipeline.lean "Idle points"). -/
def out2_B_4 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1 .f32) (x1 : Vec F S1536x1024 .fp8e5m2) (x2 : Vec F S1536x1024 .fp8e4m3) (x3 : Vec F S1024x1024 .f32) (xs0 : Vec F S1024x1024 .f32) : Vec F S1024x1024 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)

/-- Case B's pieces for scratch `arg8`, which the kernel carries between points, cover it: 1 piece of `S1024x1024` tiling it (Lib/Ring.lean `Piece.tiledL`). -/
theorem scover2_B_0 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1 .f32) (x1 : Vec F S1536x1024 .fp8e5m2) (x2 : Vec F S1536x1024 .fp8e4m3) (x3 : Vec F S1024x1024 .f32) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x1024.size (by sl_kernel_rfl) y

/-- What case B leaves in scratch `arg8`: its pieces read back over junk. -/
def sout2_B_0 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1 .f32) (x1 : Vec F S1536x1024 .fp8e5m2) (x2 : Vec F S1536x1024 .fp8e4m3) (x3 : Vec F S1024x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 5, 11, … 575: 96 of 576), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1 .f32) (x1 : Vec F S1536x1024 .fp8e5m2) (x2 : Vec F S1536x1024 .fp8e4m3) (x3 : Vec F S1024x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2_wgrad i arg3 harg3 arg4 harg4 arg5 harg5 arg6 harg6 arg7 harg7 arg8 harg8) K } := by
  refine ⟨?_, ?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

/-- Case C's pieces for output 4 tile its block (1 store of `S1024x1024`, checked by the kernel's evaluation: Lib/Ring.lean `Piece.tiledL`, linear in the pieces, through a loop's `@[irreducible]` trip theorem too), so they cover it. -/
theorem cover2_C_4 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1 .f32) (x1 : Vec F S1536x1024 .fp8e5m2) (x2 : Vec F S1536x1024 .fp8e4m3) (x3 : Vec F S1024x1024 .f32) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1024x1024.size (by sl_kernel_rfl) y

/-- What case C leaves in output 4's staging buffer: its pieces read back over junk. -/
def out2_C_4 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1 .f32) (x1 : Vec F S1536x1024 .fp8e5m2) (x2 : Vec F S1536x1024 .fp8e4m3) (x3 : Vec F S1024x1024 .f32) (xs0 : Vec F S1024x1024 .f32) : Vec F S1024x1024 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)

/-- Case C's pieces for scratch `arg8`, which the kernel carries between points, cover it: 1 piece of `S1024x1024` tiling it (Lib/Ring.lean `Piece.tiledL`). -/
theorem scover2_C_0 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1 .f32) (x1 : Vec F S1536x1024 .fp8e5m2) (x2 : Vec F S1536x1024 .fp8e4m3) (x3 : Vec F S1024x1024 .f32) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S1024x1024.size (by sl_kernel_rfl) y

/-- What case C leaves in scratch `arg8`: its pieces read back over junk. -/
def sout2_C_0 (c : Dev nD) (i : grid2.Coords) (arg3 : Memref sig .tc .smem S1 .f32) (harg3 : arg3.IsWhole) (arg4 : Memref sig .tc .vmem S1536x1024 .fp8e5m2) (harg4 : arg4.IsWhole) (arg5 : Memref sig .tc .vmem S1536x1024 .fp8e4m3) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1 .f32) (x1 : Vec F S1536x1024 .fp8e5m2) (x2 : Vec F S1536x1024 .fp8e4m3) (x3 : Vec F S1024x1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1024x1024 .f32 × Vec F S1024x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 6 = 0 then
      if h1 : (n + 1) % 6 = 5 then
        False.elim (by have hN : n + 1 < 576 := lt_of_lt_of_eq hn (show cfg2.N = 576 from N_2); omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 6 = 5 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at a point of case A: that case's contents. -/
theorem outsAt2_A (c : Dev nD) (t : Fin cfg2.N) (h0 : t.val % 6 = 0) (h1 : ¬t.val % 6 = 5) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 6 = 0) (h1 : ¬t.val % 6 = 5) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 6 = 0) (h1 : t.val % 6 = 5) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS_r2 (c : Dev nD) : (n : ℕ) → n ≤ cfg2.N → sProp 𝕄
  | 0, _ => Pipeline.ΦA spec2 c
  | n + 1, hn => iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c n hn).2) ∗ (∃ f : Buf (Elt F) ((c : Thread nD τ).loc cc0_stg0_0), ((c : Thread nD τ).loc cc0_stg0_0) ↦{fullShare} f) ∗ (∃ f : Buf (Elt F) ((c : Thread nD τ).loc cc1_stg0_0), ((c : Thread nD τ).loc cc1_stg0_0) ↦{fullShare} f)) ∗ (∃ r, prngReg c r))

theorem PhiS_zero_r2 (c : Dev nD) (n : ℕ) (h : n ≤ cfg2.N) (hz : n = 0) : PhiS_r2 V c n h = Pipeline.ΦA spec2 c := by
  subst hz; rfl

/-- After point `n` (before point `n + 1`): the carried scratch at that point's contents. -/
theorem PhiS_succ_r2 (c : Dev nD) (n : ℕ) (hn : n < cfg2.N) :
    PhiS_r2 V c (n + 1) hn = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c n hn).2) ∗ (∃ f : Buf (Elt F) ((c : Thread nD τ).loc cc0_stg0_0), ((c : Thread nD τ).loc cc0_stg0_0) ↦{fullShare} f) ∗ (∃ f : Buf (Elt F) ((c : Thread nD τ).loc cc1_stg0_0), ((c : Thread nD τ).loc cc1_stg0_0) ↦{fullShare} f)) ∗ (∃ r, prngReg c r)) := rfl

/-- Before a point that is not the first: the carried scratch at what the point before left. -/
theorem PhiS_pos_r2 (c : Dev nD) (n : ℕ) (h : n ≤ cfg2.N) (hz : n ≠ 0) :
    PhiS_r2 V c n h = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c (n - 1) (by omega)).2) ∗ (∃ f : Buf (Elt F) ((c : Thread nD τ).loc cc0_stg0_0), ((c : Thread nD τ).loc cc0_stg0_0) ↦{fullShare} f) ∗ (∃ f : Buf (Elt F) ((c : Thread nD τ).loc cc1_stg0_0), ((c : Thread nD τ).loc cc1_stg0_0) ↦{fullShare} f)) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS_r2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS_r2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS_castSucc_r2 (c : Dev nD) (t : Fin cfg2.N) :
    (dat2 V c).Φ t.castSucc = PhiS_r2 V c t.val (Nat.le_of_lt t.isLt) := by
  dsimp only [dat2]; exact Pipeline.Dat.Φ_castSucc (PhiS_r2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks (`before2_W`); the closed forms say which case the point is in (`by_cases`), an output the case reads before covering holds what the point before left (`before2_W_κ`); so the
    run applies; the invariant hands the body the carried scratch at what the point before left (`PhiS_pos_r2`; at anything at the first point, `PhiS_zero_r2`), the other scratch buffers and the generator register at some state, and takes the carried scratch back at this point's contents (`PhiS_succ_r2`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS_r2 V c (t.val + 1) t.isLt from rfl, PhiS_succ_r2]
  have hN : t.val < 576 := lt_of_lt_of_eq t.isLt (show cfg2.N = 576 from N_2)
  by_cases h0 : t.val % 6 = 0
  · by_cases h1 : t.val % 6 = 5
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      by_cases hz : t.val = 0
      · rw [PhiS_castSucc_r2 V c t, PhiS_zero_r2 V c _ _ hz, PhiA2_eq]
        rw [outsAt2_A V c t h0 h1]
        unfold sout2_A_0; (try dsimp only)
        iintro ⟨⟨⟨HR0, HR1, HR2, HR3, HR4, HR5, HR6, HR7, HR8, HR9, HR10, HR11, HR12, HR13, HR14, HS0, HR16, HR17⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HR14 HS0 HR16 HR17 Hg]
        · isplitl [HR0 HR1 HR2 HR3 HR4 HR5 HR6 HR7 HR8 HR9 HR10 HR11 HR12 HR13 HR14 HS0 HR16 HR17]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HS0]
            · unfold owns; iexists _; isplitr
              swap; · iexact HS0
              ipureintro; exact View.read_writes_of_cover _ _ _ _ _ (scover2_A_0 c _ _ _ _ _ _ _ _ _ _ _ _ _ _ _ _ _ _ _)
            isplitl [HR16]
            · iexact HR16
            iexact HR17
          iexact Hg
        isplitl [Ho]; · iexact Ho
        isplitl [H0]; · iexact H0
        isplitl [H1]; · iexact H1
        isplitl [H2]; · iexact H2
        isplitl [H3]; · iexact H3
        iexists _; iexact H4
      · rw [PhiS_castSucc_r2 V c t, PhiS_pos_r2 V c _ _ hz]
        rw [outsAt2_A V c t h0 h1]
        unfold sout2_A_0; (try dsimp only)
        iintro ⟨⟨⟨HR0, HR1, HR2, HR3, HR4, HR5, HR6, HR7, HR8, HR9, HR10, HR11, HR12, HR13, HR14, HS0, HR16, HR17⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR0 HR1 HR2 HR3 HR4 HR5 HR6 HR7 HR8 HR9 HR10 HR11 HR12 HR13 HR14 HS0 HR16 HR17 Hg]
        · isplitl [HR0 HR1 HR2 HR3 HR4 HR5 HR6 HR7 HR8 HR9 HR10 HR11 HR12 HR13 HR14 HS0 HR16 HR17]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HS0]
            · unfold owns; iexists _; isplitr
              swap; · iexact HS0
              ipureintro; exact View.read_writes_of_cover _ _ _ _ _ (scover2_A_0 c _ _ _ _ _ _ _ _ _ _ _ _ _ _ _ _ _ _ _)
            isplitl [HR16]
            · iexact HR16
            iexact HR17
          iexact Hg
        isplitl [Ho]; · iexact Ho
        isplitl [H0]; · iexact H0
        isplitl [H1]; · iexact H1
        isplitl [H2]; · iexact H2
        isplitl [H3]; · iexact H3
        iexists _; iexact H4
  · by_cases h1 : t.val % 6 = 5
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4_C t (fun h => h0 ((hcond2_0 t).mp h)) ((hcond2_1 t).mpr h1)], after2_4]
      by_cases hz : t.val = 0
      · exfalso; have hN : t.val < 576 := lt_of_lt_of_eq t.isLt (show cfg2.N = 576 from N_2); omega
      · rw [PhiS_castSucc_r2 V c t, PhiS_pos_r2 V c _ _ hz]
        rw [outsAt2_C V c t h0 h1]
        unfold out2_C_4 sout2_C_0; (try dsimp only)
        iintro ⟨⟨⟨HR0, HR1, HR2, HR3, HR4, HR5, HR6, HR7, HR8, HR9, HR10, HR11, HR12, HR13, HR14, HS0, HR16, HR17⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HS0 HR16 HR17 Hg]
        · isplitl [HR0 HR1 HR2 HR3 HR4 HR5 HR6 HR7 HR8 HR9 HR10 HR11 HR12 HR13 HR14 HS0 HR16 HR17]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HS0]
            · unfold owns; iexists _; isplitr
              swap; · iexact HS0
              ipureintro; exact View.read_writes_of_cover _ _ _ _ _ (scover2_C_0 c _ _ _ _ _ _ _ _ _ _ _ _ _ _ _ _ _ _ _ _)
            isplitl [HR16]
            · iexact HR16
            iexact HR17
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      by_cases hz : t.val = 0
      · exfalso; have hN : t.val < 576 := lt_of_lt_of_eq t.isLt (show cfg2.N = 576 from N_2); omega
      · rw [PhiS_castSucc_r2 V c t, PhiS_pos_r2 V c _ _ hz]
        rw [outsAt2_B V c t h0 h1]
        unfold sout2_B_0; (try dsimp only)
        iintro ⟨⟨⟨HR0, HR1, HR2, HR3, HR4, HR5, HR6, HR7, HR8, HR9, HR10, HR11, HR12, HR13, HR14, HS0, HR16, HR17⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HR14 HS0 HR16 HR17 Hg]
        · isplitl [HR0 HR1 HR2 HR3 HR4 HR5 HR6 HR7 HR8 HR9 HR10 HR11 HR12 HR13 HR14 HS0 HR16 HR17]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HS0]
            · unfold owns; iexists _; isplitr
              swap; · iexact HS0
              ipureintro; exact View.read_writes_of_cover _ _ _ _ _ (scover2_B_0 c _ _ _ _ _ _ _ _ _ _ _ _ _ _ _ _ _ _ _ _)
            isplitl [HR16]
            · iexact HR16
            iexact HR17
          iexact Hg
        isplitl [Ho]; · iexact Ho
        isplitl [H0]; · iexact H0
        isplitl [H1]; · iexact H1
        isplitl [H2]; · iexact H2
        isplitl [H3]; · iexact H3
        iexists _; iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin_r2 (c : Dev nD) : Pipeline.ΦA spec2 c ⊢ (dat2 V c).Φ 0 := by
  rw [show (dat2 V c).Φ 0 = PhiS_r2 V c 0 (Nat.zero_le _) from rfl, PhiS_zero_r2 V c 0 _ rfl]
  try exact Idealize.SL.BI.Entails.refl _

/-- After any point but the first the invariant gives `ΦA` back: the carried scratch's named contents are forgotten. -/
theorem Phi_out_r2 (c : Dev nD) (t : Fin (cfg2.N + 1)) (ht : t.val ≠ 0) : (dat2 V c).Φ t ⊢ Pipeline.ΦA spec2 c := by
  rw [show (dat2 V c).Φ t = PhiS_r2 V c t.val (Nat.le_of_lt_succ t.isLt) from rfl, PhiS_pos_r2 V c _ _ ht, PhiA2_eq]
  iintro ⟨⟨HR0, HR1, HR2, HR3, HR4, HR5, HR6, HR7, HR8, HR9, HR10, HR11, HR12, HR13, HR14, HS0, HR16, HR17⟩, Hg⟩
  isplitl [HR0 HR1 HR2 HR3 HR4 HR5 HR6 HR7 HR8 HR9 HR10 HR11 HR12 HR13 HR14 HS0 HR16 HR17]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HS0]
    · iexists _; iexact HS0
    isplitl [HR16]
    · iexact HR16
    iexact HR17
  iexact Hg

/-- The same after the last point. -/
theorem hout_r2 (c : Dev nD) : (dat2 V c).Φ (Fin.last cfg2.N) ⊢ Pipeline.ΦA spec2 c :=
  Phi_out_r2 V c _ (by rw [Fin.val_last]; have : cfg2.N = 576 := N_2; omega)

end Regions

end Cert.KernelIdeal.Whole

end
-- ==== Proof.Whole.Hosts0.lean ====
/- What each stretch of host operations writes, and that it writes no argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v11, main_cst_0, main_v12, main_cst_1, main_v13, main_v14]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Whole

end
-- ==== Proof.Whole.Fold0.lean ====
/- The buffers' contents at every boundary between @main's items, a fold from the launch memory. -/
module

public import proofs.«01_k».proof.Proof.Whole.Region0
public import proofs.«01_k».proof.Proof.Whole.Region1
public import proofs.«01_k».proof.Proof.Whole.Region2
public import proofs.«01_k».proof.Proof.Whole.Hosts0

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
end Cert.KernelIdeal.Whole

end
-- ==== Proof.Whole.State.lean ====
/- The three regions' proof data together, and what a core holds between two items of @main. -/
module

public import proofs.«01_k».proof.Proof.Whole.Fold0

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

end Cert.KernelIdeal.Whole

end
-- ==== Proof.Whole.Record0.lean ====
/- The quantise region as a segment of @main. -/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Record1.lean ====
/- The input-gradient region as a segment of @main. -/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin_r1 (V3 m ρ) c)
    unfold Pipeline.ΦA
    iintro ⟨Hp, -, Hr⟩
    isplitl [Hr]; · iexact Hr
    iexact Hp
  hout c := by
    refine BI.BIBase.Entails.trans (hout_r1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Record2.lean ====
/- The weight-gradient region as a segment of @main. -/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin_r2 (V5 m ρ) c)
    unfold Pipeline.ΦA
    iintro ⟨Hp, -, Hr⟩
    isplitl [Hr]; · iexact Hr
    iexact Hp
  hout c := by
    refine BI.BIBase.Entails.trans (hout_r2 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Run.lean ====
/- The whole run of @main: its segments in order, and every unscoped buffer's contents at the end. -/
module

public import proofs.«01_k».proof.Proof.Whole.Record0
public import proofs.«01_k».proof.Proof.Whole.Record1
public import proofs.«01_k».proof.Proof.Whole.Record2

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters, every weakly fair execution of @main on the TensorCores terminates, and
    every final state has every unscoped buffer at the last boundary's contents `W7` and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- THE FRAME: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c),
       (h.1 c _ (mem_uc main_arg6 (by decide))).trans (W7_main_arg6 m ρ c)⟩, h.2⟩) (run m ρ)

end Cert.KernelIdeal.Whole

end
-- ==== Proof.Whole.Bits.lean ====
/- The kernel's frame at machine numbers: the program printed for machine numbers and the one printed for the extended reals
   are one text, so what the run shows of the second at any number type is, at machine numbers, the frame of the first. -/
module

public import proofs.«01_k».proof.Proof.Whole.Run
public import proofs.«01_k».proof.Defs
public import proofs.«01_k».proof.Proof.Gen.Kernel

@[expose] public section
set_option maxRecDepth 16384
namespace Cert.Kernel.Whole
open Idealize.ShloMosaic Idealize.SL.Sem

/-- The frame claim of the program printed for the extended reals, read at machine numbers. -/
def Frame₀ [Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The two printed programs are the same text: their frame claims are the same proposition. -/
theorem frame_eq [Cert.KernelIdeal.Facts] [Cert.Kernel.Facts] : Cert.quiescent_Kernel = Frame₀ := by chain_rfl

/-- The kernel at machine numbers terminates, leaves its arguments unchanged and every semaphore at zero. -/
theorem frame : Cert.quiescent_Kernel := by
  rw [frame_eq]
  exact fun m ρ _ => Cert.KernelIdeal.Whole.frame m ρ
end Cert.Kernel.Whole
-- ==== Proof.ValueBase.lean ====
/- A load of an array of one element, shared by the modules on the three launches. -/
module

public import proofs.«01_k».proof.Proof.Gen.KernelIdeal.Skeleton
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen
open Idealize.ShloMosaic Idealize.ShloMosaic.TcCoe

/-- A load of the only element of an array of one element. -/
theorem ld_one (x : Vec Ideal S1 .f32) (h) (h') : View.ld x (Rect.unit (s := S1) ![0] ![1] h) (Shape.Idx.first h') = x (ix1 0) := by
  rw [View.ld_apply]
  refine congrArg x (funext fun a => Fin.ext ?_)
  have h : ∀ a : Fin S1.rank, S1.size a = 1 := by decide
  have hb : ∀ i : S1.Idx, (i a : ℕ) = 0 := fun i => by have := (i a).isLt; have := h a; omega
  exact (hb _).trans (hb _).symm

end Cert.KernelIdeal.Value

end
-- ==== Proof.Value0.lean ====
/- What the quantising launch leaves in its three output arrays, over the extended reals: every code is the gradient's element
   times the inverse scale, clipped; the partial sums hold, in row `r`, each column's sum over the tokens that are `r` modulo 8; the
   partial maxima hold the greatest magnitude over the same tokens, and at least zero. -/
module

public import proofs.«01_k».proof.Proof.Whole.Region0
public import proofs.«01_k».proof.Proof.ValueBase

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The windows' block indices in terms of the point's number. -/
theorem idx0 : ∀ t : Fin cfg0.N, win0_0.index t = ![0] ∧ win0_1.index t = ![t.val % 18, t.val / 18]
    ∧ win0_2.index t = ![t.val % 18, t.val / 18] ∧ win0_3.index t = ![0, t.val / 18] ∧ win0_4.index t = ![0, t.val / 18] ∧ t.val < 72 :=
  (by decide +kernel : ∀ t : Fin grid0.N, _)

/-- An element quantised: times the inverse scale, clipped to the greatest code either way. -/
def clip (x s : EReal) : EReal := min (Ideal.ofBits .f32 0x47600000#32) (max (Ideal.ofBits .f32 0xC7600000#32) (x * s))

/-- The magnitude of an element. -/
def mag (x : EReal) : EReal := max x (-x)

/-- A magnitude is at least zero. -/
theorem mag_nonneg (x : EReal) : 0 ≤ mag x := by
  rcases le_total 0 x with h | h
  · exact le_max_of_le_left h
  · exact le_max_of_le_right (by rw [EReal.le_neg]; simpa using h)

/-- The bits of negative infinity are the least extended real. -/
theorem bot_bits : Ideal.ofBits .f32 0xFF800000#32 = ⊥ := by
  simp [Ideal.ofBits, Ideal.ieee]

/-- Row `r` of the `q`-th group of eight rows lies in the block. -/
theorem row_lt (q : Fin 64) (r : Fin 8) : q.val * 8 + r.val < 512 := by omega

/-- The codes a point stores. -/
theorem quant0 (v0 : Vec Ideal S512x4096 .bf16) (v3 : Elt Ideal .f32) (j) : k0_pay2 v0 v3 j = clip (v0 j) v3 := by
  pointwise [k0_pay2, k0_pay1]
  rfl

/-- The partial sums are reset to zero. -/
theorem zeroSum0 (j) : k0_pay3 (F := Ideal) j = 0 := by pointwise [k0_pay3]

/-- The partial maxima are reset to zero. -/
theorem zeroMax0 (j) : k0_pay4 (F := Ideal) j = 0 := by pointwise [k0_pay4]

/-- One point adds its 64 rows that are `j 0` modulo 8 to the partial sums. -/
theorem sum0 (v0 : Vec Ideal S512x4096 .bf16) (v : Vec Ideal S8x4096 .f32) (j) :
    k0_pay5 v0 v j = v j + ∑ q : Fin 64, v0 (ix2 ⟨q.val * 8 + (j 0).val, row_lt q (j 0)⟩ (j 1)) := by
  pointwise [k0_pay5, k0_pay1]

/-- One point takes its 64 rows that are `j 0` modulo 8 into the partial maxima. -/
theorem max0 (v0 : Vec Ideal S512x4096 .bf16) (v : Vec Ideal S8x4096 .f32) (j) :
    k0_pay6 v0 v j = max (v j) (Finset.univ.fold max ⊥ fun q : Fin 64 =>
      mag (v0 (ix2 ⟨q.val * 8 + (j 0).val, row_lt q (j 0)⟩ (j 1)))) := by
  pointwise [k0_pay6, k0_pay1]
  rw [bot_bits]
  rfl

/-- The codes a point leaves. -/
theorem codes0 (c : Dev nD) (t : Fin cfg0.N) (j) : (outsAt0 V c t.val t.isLt).1 j
    = clip ((show Vec Ideal S512x4096 .bf16 from iblk0 V c 1 t) j) ((show Vec Ideal S1 .f32 from iblk0 V c 0 t) (ix1 0)) := by
  by_cases h0 : t.val % 18 = 0
  · rw [outsAt0_A V c t h0]
    frame_out
    rw [quant0, ld_one]
  · rw [outsAt0_B V c t h0]
    frame_out
    rw [quant0, ld_one]

/-- What a point adds to the partial sums. -/
def part0 (c : Dev nD) (t : Fin cfg0.N) (j : S8x4096.Idx) : EReal :=
  ∑ q : Fin 64, (show Vec Ideal S512x4096 .bf16 from iblk0 V c 1 t)
    (ix2 ⟨q.val * 8 + (j 0).val, row_lt q (j 0)⟩ (j 1))

/-- At the first point of a run of eighteen the partial sums are left at zero plus the point's. -/
theorem resetSum0 (c : Dev nD) (t : Fin cfg0.N) (h0 : t.val % 18 = 0) (j) :
    (outsAt0 V c t.val t.isLt).2.1 j = 0 + part0 V c t j := by
  rw [outsAt0_A V c t h0]
  frame_out
  rw [sum0, zeroSum0]
  rfl

/-- At a later point the point's sums are added to what the point before left. -/
theorem stepSum0 (c : Dev nD) (t : Fin cfg0.N) (h0 : ¬t.val % 18 = 0) (j) : (outsAt0 V c t.val t.isLt).2.1 j
    = (outsAt0 V c (t.val - 1) (Nat.lt_of_le_of_lt (Nat.sub_le _ _) t.isLt)).2.1 j + part0 V c t j := by
  rw [outsAt0_B V c t h0]
  frame_out
  rw [sum0]
  rfl

/-- The greatest magnitude a point reads. -/
def most0 (c : Dev nD) (t : Fin cfg0.N) (j : S8x4096.Idx) : EReal :=
  Finset.univ.fold max ⊥ fun q : Fin 64 => mag ((show Vec Ideal S512x4096 .bf16 from iblk0 V c 1 t)
    (ix2 ⟨q.val * 8 + (j 0).val, row_lt q (j 0)⟩ (j 1)))

/-- At the first point of a run of eighteen the partial maxima are left at the greater of zero and the point's. -/
theorem resetMax0 (c : Dev nD) (t : Fin cfg0.N) (h0 : t.val % 18 = 0) (j) :
    (outsAt0 V c t.val t.isLt).2.2 j = max 0 (most0 V c t j) := by
  rw [outsAt0_A V c t h0]
  frame_out
  rw [max0, zeroMax0]
  rfl

/-- At a later point the point's maxima are taken into what the point before left. -/
theorem stepMax0 (c : Dev nD) (t : Fin cfg0.N) (h0 : ¬t.val % 18 = 0) (j) : (outsAt0 V c t.val t.isLt).2.2 j
    = max ((outsAt0 V c (t.val - 1) (Nat.lt_of_le_of_lt (Nat.sub_le _ _) t.isLt)).2.2 j) (most0 V c t j) := by
  rw [outsAt0_B V c t h0]
  frame_out
  rw [max0]
  rfl

end Cert.KernelIdeal.Value

end
-- ==== Proof.Final0.lean ====
/- The quantising launch's three output arrays as functions of the arrays it reads. -/
module

public import proofs.«01_k».proof.Proof.Value0

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The codes of a whole array. -/
def codes (D : Vec Ideal S9216x16384 .bf16) (s : Vec Ideal S1 .f32) : Vec Ideal S9216x16384 .fp8e5m2 :=
  fun i => clip (D i) (s (ix1 0))

/-- The array of codes after the launch. -/
theorem final0_2 (c : Dev nD) : (dat0 V c).arrAt 2 cfg0.N = codes (V c main_v0) (V c main_v3) := by
  refine (dat0 V c).arrAt_eq_of_covers 2 _ (by decide +kernel) fun t hf y => ?_
  blk_simp
  rw [after0_2, codes0 V c t]
  unfold codes
  refine congrArg₂ clip ?_ ?_
  · blk_ext [iblk0, idx0 t]
  · blk_ext [iblk0, idx0 t]

/-- Token `r` of the `q`-th group of eight tokens is a token. -/
theorem token_lt (q : Fin 1152) (r : Fin 8) : q.val * 8 + r.val < 9216 := by omega

/-- The partial sums of a whole array. -/
def sums (D : Vec Ideal S9216x16384 .bf16) : Vec Ideal S8x16384 .f32 :=
  fun i => ∑ q : Fin 1152, D (ix2 ⟨q.val * 8 + (i 0).val, token_lt q (i 0)⟩ (i 1))

/-- The array of partial sums after the launch. -/
theorem final0_3 (c : Dev nD) : (dat0 V c).arrAt 3 cfg0.N = sums (V c main_v0) := by
  refine (dat0 V c).arrAt_eq_of_covers 3 _ (by decide +kernel) fun t hf y => ?_
  have h17 := (flush0_3 t).mp hf
  blk_simp
  rw [after0_3,
    Pipeline.eq_sum_fin_of_reset_step_apply_of_flush (fun n h => (outsAt0 V c n h).2.1) 18 (fun _ => (0 : EReal)) (part0 V c)
      (resetSum0 V c) (stepSum0 V c) t h17, zero_add]
  unfold sums part0
  refine Fin.sum_mul_add_congr fun s k hl => ?_
  have e := idx0 ⟨_, Pipeline.run_point_lt_of_flush t h17 s⟩
  blk_ext [iblk0, idx0 t, e]

/-- The partial maxima of a whole array. -/
def maxes (D : Vec Ideal S9216x16384 .bf16) : Vec Ideal S8x16384 .f32 :=
  fun i => Finset.univ.fold max 0 fun q : Fin 1152 => mag (D (ix2 ⟨q.val * 8 + (i 0).val, token_lt q (i 0)⟩ (i 1)))

/-- The partial maxima after a point are at most `b` exactly when zero is and so is all that the run's points so far have read. -/
theorem le0 (c : Dev nD) (j) (b : EReal) : ∀ (n : ℕ) (h : n < cfg0.N), (outsAt0 V c n h).2.2 j ≤ b
    ↔ 0 ≤ b ∧ ∀ s : Fin cfg0.N, s.val / 18 = n / 18 → s.val ≤ n → most0 V c s j ≤ b := by
  intro n
  induction n with
  | zero =>
    intro h
    rw [resetMax0 V c ⟨0, h⟩ rfl j, max_le_iff]
    refine and_congr_right fun _ => ⟨fun hb s _ hs => ?_, fun hb => hb _ rfl le_rfl⟩
    obtain rfl : s = ⟨0, h⟩ := Fin.ext (Nat.le_zero.mp hs)
    exact hb
  | succ n ih =>
    intro h
    by_cases h0 : (n + 1) % 18 = 0
    · rw [resetMax0 V c ⟨n + 1, h⟩ h0 j, max_le_iff]
      refine and_congr_right fun _ => ⟨fun hb s hq hs => ?_, fun hb => hb _ rfl le_rfl⟩
      obtain rfl : s = ⟨n + 1, h⟩ := Fin.ext (by show s.val = n + 1; omega)
      exact hb
    · rw [stepMax0 V c ⟨n + 1, h⟩ h0 j, max_le_iff]
      have e := ih (Nat.lt_of_succ_lt h)
      refine ⟨fun hb => ?_, fun hb => ⟨e.mpr ⟨hb.1, fun s hq hs => hb.2 s (by omega) (by omega)⟩, hb.2 _ rfl le_rfl⟩⟩
      have hp := e.mp hb.1
      refine ⟨hp.1, fun s hq hs => ?_⟩
      rcases Nat.lt_or_ge n s.val with hl | hl
      · obtain rfl : s = ⟨n + 1, h⟩ := Fin.ext (by show s.val = n + 1; omega)
        exact hb.2
      · exact hp.2 s (by omega) hl

/-- The array of partial maxima after the launch. -/
theorem final0_4 (c : Dev nD) : (dat0 V c).arrAt 4 cfg0.N = maxes (V c main_v0) := by
  refine (dat0 V c).arrAt_eq_of_covers 4 _ (by decide +kernel) fun t hf y => ?_
  have h17 := (flush0_4 t).mp hf
  have hN : t.val < 72 := lt_of_lt_of_eq t.isLt N_0
  blk_simp
  rw [after0_4]
  unfold maxes
  refine eq_of_forall_ge_iff (α := EReal) fun b => ?_
  rw [le0 V c _ b t.val t.isLt, Finset.fold_max_le]
  refine and_congr_right fun _ => ⟨fun hb q _ => ?_, fun hb s hq _ => ?_⟩
  · have hs : 18 * (t.val / 18) + q.val / 64 < cfg0.N := lt_of_lt_of_eq (by omega) N_0.symm
    have hm := hb ⟨_, hs⟩ (by show (18 * (t.val / 18) + q.val / 64) / 18 = _; omega) (by show 18 * (t.val / 18) + q.val / 64 ≤ _; omega)
    unfold most0 at hm
    rw [Finset.fold_max_le] at hm
    refine le_trans (le_of_eq ?_) (hm.2 ⟨q.val % 64, by omega⟩ (Finset.mem_univ _))
    have e := idx0 ⟨_, hs⟩
    refine congrArg mag ?_
    blk_ext [iblk0, idx0 t, e]
  · unfold most0
    rw [Finset.fold_max_le]
    refine ⟨bot_le, fun k _ => ?_⟩
    refine le_trans (le_of_eq ?_) (hb ⟨s.val % 18 * 64 + k.val, by omega⟩ (Finset.mem_univ _))
    have e := idx0 s
    refine congrArg mag ?_
    blk_ext [iblk0, idx0 t, e]

end Cert.KernelIdeal.Value

end
-- ==== Proof.Value1.lean ====
/- What the input-gradient launch leaves in its output array, over the extended reals: at row `r` and column `n` the sum over all
   16384 of the contracted axis of codes times weights, times the scale. The launch adds the sum up eight blocks of 2048 at a time. -/
module

public import proofs.«01_k».proof.Proof.Whole.Region1
public import proofs.«01_k».proof.Proof.ValueBase

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The windows' block indices in terms of the point's number. -/
theorem idx1 : ∀ t : Fin cfg1.N, win1_0.index t = ![0] ∧ win1_1.index t = ![t.val / 24, t.val % 8]
    ∧ win1_2.index t = ![t.val % 8, t.val / 8 % 3] ∧ win1_3.index t = ![t.val / 24, t.val / 8 % 3] ∧ t.val < 216 :=
  (by decide +kernel : ∀ t : Fin grid1.N, _)

/-- The accumulator is reset to zero. -/
theorem zero1 (j) : k1_pay1 (F := Ideal) j = 0 := by pointwise [k1_pay1]

/-- One point adds the product of its two blocks. -/
theorem acc1 (v3 : Vec Ideal S1024x2048 .f32) (v4 : Vec Ideal S1024x2048 .fp8e5m2) (v6 : Vec Ideal S2048x2048 .fp8e4m3) (j) :
    k1_pay2 v3 v4 v6 j = v3 j + ∑ k : Fin 2048, v4 (ix2 (j 0) k) * v6 (ix2 k (j 1)) := by pointwise [k1_pay2]

/-- What is stored is the accumulator times the scale. -/
theorem store1 (v15 : Vec Ideal S1024x2048 .f32) (v16 : Elt Ideal .f32) (j) :
    k1_pay3 v15 v16 j = v15 j * v16 := by pointwise [k1_pay3]

/-- What a point adds to the accumulator: the product of the blocks it reads. -/
def part1 (c : Dev nD) (t : Fin cfg1.N) (j : S1024x2048.Idx) : EReal :=
  ∑ k : Fin 2048, (show Vec Ideal S1024x2048 .fp8e5m2 from iblk1 V c 1 t) (ix2 (j 0) k)
    * (show Vec Ideal S2048x2048 .fp8e4m3 from iblk1 V c 2 t) (ix2 k (j 1))

/-- At the first point of a run of eight the accumulator is left at zero plus the point's product. -/
theorem reset1 (c : Dev nD) (t : Fin cfg1.N) (h0 : t.val % 8 = 0) (j) :
    (outsAt1 V c t.val t.isLt).2 j = 0 + part1 V c t j := by
  rw [outsAt1_A V c t h0 (by omega)]
  frame_out
  rw [acc1, zero1]
  rfl

/-- At a later point the product is added to what the point before left. -/
theorem step1 (c : Dev nD) (t : Fin cfg1.N) (h0 : ¬t.val % 8 = 0) (j) :
    (outsAt1 V c t.val t.isLt).2 j
      = (outsAt1 V c (t.val - 1) (Nat.lt_of_le_of_lt (Nat.sub_le _ _) t.isLt)).2 j + part1 V c t j := by
  by_cases h1 : t.val % 8 = 7
  · rw [outsAt1_C V c t h0 h1]
    frame_out
    simp only [read_unread_whole]
    rw [acc1]
    rfl
  · rw [outsAt1_B V c t h0 h1]
    frame_out
    simp only [read_unread_whole]
    rw [acc1]
    rfl

/-- At the last point of a run the output block is the accumulator times the scale. -/
theorem last1 (c : Dev nD) (t : Fin cfg1.N) (h1 : t.val % 8 = 7) (j) :
    (outsAt1 V c t.val t.isLt).1 j = (outsAt1 V c t.val t.isLt).2 j * (show Vec Ideal S1 .f32 from iblk1 V c 0 t) (ix1 0) := by
  rw [outsAt1_C V c t (by omega) h1]
  frame_out
  simp only [read_unread_whole]
  rw [store1, ld_one]

/-- The input gradient: codes times weights, summed over the contracted axis, times the scale. -/
def dx (C : Vec Ideal S9216x16384 .fp8e5m2) (W : Vec Ideal S16384x6144 .fp8e4m3) (s : Vec Ideal S1 .f32) :
    Vec Ideal S9216x6144 .bf16 :=
  fun i => (∑ l : Fin 16384, C (ix2 (i 0) l) * W (ix2 l (i 1))) * s (ix1 0)

/-- The output array after the launch. -/
theorem final1 (c : Dev nD) : (dat1 V c).arrAt 3 cfg1.N = dx (V c main_v4_0) (V c main_arg4) (V c main_v6) := by
  refine (dat1 V c).arrAt_eq_of_covers 3 _ (by decide +kernel) fun t hf y => ?_
  have h7 := (flush1_3 t).mp hf
  blk_simp
  rw [after1_3, last1 V c t h7,
    Pipeline.eq_sum_fin_of_reset_step_apply_of_flush (fun n h => (outsAt1 V c n h).2) 8 (fun _ => (0 : EReal)) (part1 V c)
      (reset1 V c) (step1 V c) t h7, zero_add]
  unfold dx part1
  refine congrArg₂ (· * ·) ?_ ?_
  · refine Fin.sum_mul_add_congr fun s k hl => ?_
    have e := idx1 ⟨_, Pipeline.run_point_lt_of_flush t h7 s⟩
    blk_point [iblk1, idx1 t, e]
  · blk_ext [iblk1, idx1 t]

end Cert.KernelIdeal.Value

end
-- ==== Proof.Value2.lean ====
/- What the weight-gradient launch leaves in its output array, over the extended reals: at row `k` and column `n` the array it was
   given plus the sum over all 9216 tokens of codes times inputs, times the scale. The launch adds the sum up six blocks of 1536
   tokens at a time. -/
module

public import proofs.«01_k».proof.Proof.Whole.Region2
public import proofs.«01_k».proof.Proof.ValueBase

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The windows' block indices in terms of the point's number. -/
theorem idx2 : ∀ t : Fin cfg2.N, win2_0.index t = ![0] ∧ win2_1.index t = ![t.val % 6, t.val / 36]
    ∧ win2_2.index t = ![t.val % 6, t.val / 6 % 6] ∧ win2_3.index t = ![t.val / 36, t.val / 6 % 6]
    ∧ win2_4.index t = ![t.val / 36, t.val / 6 % 6] ∧ t.val < 576 :=
  (by decide +kernel : ∀ t : Fin grid2.N, _)

/-- The accumulator is reset to zero. -/
theorem zero2 (j) : k2_pay1 (F := Ideal) j = 0 := by pointwise [k2_pay1]

/-- One point adds the product of its two blocks, contracted over their rows. -/
theorem acc2 (v3 : Vec Ideal S1024x1024 .f32) (v4 : Vec Ideal S1536x1024 .fp8e5m2) (v6 : Vec Ideal S1536x1024 .fp8e4m3) (j) :
    k2_pay2 v3 v4 v6 j = v3 j + ∑ k : Fin 1536, v4 (ix2 k (j 0)) * v6 (ix2 k (j 1)) := by pointwise [k2_pay2]

/-- What is stored is the given block plus the accumulator times the scale. -/
theorem store2 (v16 v17 : Vec Ideal S1024x1024 .f32) (v18 : Elt Ideal .f32) (j) :
    k2_pay3 v16 v17 v18 j = v16 j + v17 j * v18 := by pointwise [k2_pay3]

/-- What a point adds to the accumulator: the product of the blocks it reads. -/
def part2 (c : Dev nD) (t : Fin cfg2.N) (j : S1024x1024.Idx) : EReal :=
  ∑ k : Fin 1536, (show Vec Ideal S1536x1024 .fp8e5m2 from iblk2 V c 1 t) (ix2 k (j 0))
    * (show Vec Ideal S1536x1024 .fp8e4m3 from iblk2 V c 2 t) (ix2 k (j 1))

/-- At the first point of a run of six the accumulator is left at zero plus the point's product. -/
theorem reset2 (c : Dev nD) (t : Fin cfg2.N) (h0 : t.val % 6 = 0) (j) :
    (outsAt2 V c t.val t.isLt).2 j = 0 + part2 V c t j := by
  rw [outsAt2_A V c t h0 (by omega)]
  frame_out
  rw [acc2, zero2]
  rfl

/-- At a later point the product is added to what the point before left. -/
theorem step2 (c : Dev nD) (t : Fin cfg2.N) (h0 : ¬t.val % 6 = 0) (j) :
    (outsAt2 V c t.val t.isLt).2 j
      = (outsAt2 V c (t.val - 1) (Nat.lt_of_le_of_lt (Nat.sub_le _ _) t.isLt)).2 j + part2 V c t j := by
  by_cases h1 : t.val % 6 = 5
  · rw [outsAt2_C V c t h0 h1]
    frame_out
    simp only [read_unread_whole]
    rw [acc2]
    rfl
  · rw [outsAt2_B V c t h0 h1]
    frame_out
    simp only [read_unread_whole]
    rw [acc2]
    rfl

/-- At the last point of a run the output block is the given block plus the accumulator times the scale. -/
theorem last2 (c : Dev nD) (t : Fin cfg2.N) (h1 : t.val % 6 = 5) (j) :
    (outsAt2 V c t.val t.isLt).1 j = (show Vec Ideal S1024x1024 .f32 from iblk2 V c 3 t) j
      + (outsAt2 V c t.val t.isLt).2 j * (show Vec Ideal S1 .f32 from iblk2 V c 0 t) (ix1 0) := by
  rw [outsAt2_C V c t (by omega) h1]
  frame_out
  simp only [read_unread_whole]
  rw [store2, ld_one]

/-- The weight gradient: the array given plus codes times inputs, summed over the tokens, times the scale. -/
def mg (C : Vec Ideal S9216x16384 .fp8e5m2) (X : Vec Ideal S9216x6144 .fp8e4m3) (s : Vec Ideal S1 .f32)
    (M : Vec Ideal S16384x6144 .f32) : Vec Ideal S16384x6144 .f32 :=
  fun i => M i + (∑ l : Fin 9216, C (ix2 l (i 0)) * X (ix2 l (i 1))) * s (ix1 0)

/-- The output array after the launch. -/
theorem final2 (c : Dev nD) :
    (dat2 V c).arrAt 4 cfg2.N = mg (V c main_v4_0) (V c main_v1) (V c main_v9) (V c main_arg6) := by
  refine (dat2 V c).arrAt_eq_of_covers 4 _ (by decide +kernel) fun t hf y => ?_
  have h5 := (flush2_4 t).mp hf
  blk_simp
  rw [after2_4, last2 V c t h5,
    Pipeline.eq_sum_fin_of_reset_step_apply_of_flush (fun n h => (outsAt2 V c n h).2) 6 (fun _ => (0 : EReal)) (part2 V c)
      (reset2 V c) (step2 V c) t h5, zero_add]
  unfold mg part2
  refine congrArg₂ (· + ·) ?_ (congrArg₂ (· * ·) ?_ ?_)
  · blk_ext [iblk2, idx2 t]
  · refine Fin.sum_mul_add_congr fun s k hl => ?_
    have e := idx2 ⟨_, Pipeline.run_point_lt_of_flush t h5 s⟩
    blk_point [iblk2, idx2 t, e]
  · blk_ext [iblk2, idx2 t]

end Cert.KernelIdeal.Value

end
-- ==== Proof.KernelValue.lean ====
/- The five results of the run as functions of the arguments: each region's arrays read at the contents it is entered with, and the
   host lines between the regions read where they write. -/
module

public import proofs.«01_k».proof.Proof.Whole.Run
public import proofs.«01_k».proof.Proof.Final0
public import proofs.«01_k».proof.Proof.Value1
public import proofs.«01_k».proof.Proof.Value2
public import Idealize.ShloMosaic.Lib.Claim

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The gradient as tokens by columns. -/
def flatD (c : Dev nD) : Vec Ideal S9216x16384 .bf16 :=
  shapeCast S9216x16384 (m ((c : Thread nD τ).loc main_arg0) : Vec Ideal S6x1536x16384 .bf16) shapeCasts_S6x1536x16384_S9216x16384
/-- The activations as tokens by columns. -/
def flatX (c : Dev nD) : Vec Ideal S9216x6144 .fp8e4m3 :=
  shapeCast S9216x6144 (m ((c : Thread nD τ).loc main_arg2) : Vec Ideal S6x1536x6144 .fp8e4m3) shapeCasts_S6x1536x6144_S9216x6144
/-- The reciprocal of the gradient's scale. -/
def invS (c : Dev nD) : Vec Ideal S1 .f32 :=
  shapeCast S1 ((Host.divf (F := Ideal) (s := S_) (φ := .f32) (constant S_ .f32 0x3F800000#32) (m ((c : Thread nD τ).loc main_arg1)) : Vec Ideal S_ .f32)) shapeCasts_S_S1
/-- The product of the scales of the gradient and the weights. -/
def scaleW (c : Dev nD) : Vec Ideal S1 .f32 :=
  shapeCast S1 ((mulf (F := Ideal) (s := S_) (φ := .f32) (m ((c : Thread nD τ).loc main_arg1)) (m ((c : Thread nD τ).loc main_arg5)) : Vec Ideal S_ .f32)) shapeCasts_S_S1
/-- The product of the scales of the gradient and the activations. -/
def scaleX (c : Dev nD) : Vec Ideal S1 .f32 :=
  shapeCast S1 ((mulf (F := Ideal) (s := S_) (φ := .f32) (m ((c : Thread nD τ).loc main_arg1)) (m ((c : Thread nD τ).loc main_arg3)) : Vec Ideal S_ .f32)) shapeCasts_S_S1

/-! ## What the first region is entered with and leaves -/

theorem V1_v0 (c : Dev nD) : V1 m ρ c main_v0 = flatD m c := by
  change StableHlo.after hostOps0 (W0 m ρ c) _ = _
  after_results
  rfl
theorem V1_v1 (c : Dev nD) : V1 m ρ c main_v1 = flatX m c := by
  change StableHlo.after hostOps0 (W0 m ρ c) _ = _
  after_results
  rfl
theorem V1_v3 (c : Dev nD) : V1 m ρ c main_v3 = invS m c := by
  change StableHlo.after hostOps0 (W0 m ρ c) _ = _
  after_results
  rfl

theorem W2_codes (c : Dev nD) : W2 m ρ c main_v4_0 = codes (flatD m c) (invS m c) := by
  refine (W2_arr m ρ c 2).trans ?_
  rw [final0_2, V1_v0, V1_v3]
theorem W2_sums (c : Dev nD) : W2 m ρ c main_v4_1 = sums (flatD m c) := by
  refine (W2_arr m ρ c 3).trans ?_
  rw [final0_3, V1_v0]
theorem W2_maxes (c : Dev nD) : W2 m ρ c main_v4_2 = maxes (flatD m c) := by
  refine (W2_arr m ρ c 4).trans ?_
  rw [final0_4, V1_v0]
theorem W2_x (c : Dev nD) : W2 m ρ c main_v1 = flatX m c :=
  (W2_of m ρ c main_v1 (by decide +kernel)).trans (V1_v1 m ρ c)

/-! ## What the second region is entered with and leaves -/

theorem V3_codes (c : Dev nD) : V3 m ρ c main_v4_0 = codes (flatD m c) (invS m c) :=
  (W3_of m ρ c main_v4_0 (by decide)).trans (W2_codes m ρ c)
theorem V3_w (c : Dev nD) : V3 m ρ c main_arg4 = m ((c : Thread nD τ).loc main_arg4) := W3_args m ρ c main_arg4 (by decide)
theorem V3_scale (c : Dev nD) : V3 m ρ c main_v6 = scaleW m c := by
  change StableHlo.after hostOps1 (W2 m ρ c) _ = _
  after_results
  rw [W2_args m ρ c main_arg1 (by decide), W2_args m ρ c main_arg5 (by decide)]
  rfl

theorem W4_dx (c : Dev nD) : W4 m ρ c main_v7
    = dx (codes (flatD m c) (invS m c)) (m ((c : Thread nD τ).loc main_arg4)) (scaleW m c) := by
  refine (W4_arr m ρ c 3).trans ?_
  rw [final1, V3_codes, V3_w, V3_scale]
theorem W4_codes (c : Dev nD) : W4 m ρ c main_v4_0 = codes (flatD m c) (invS m c) :=
  (W4_of m ρ c main_v4_0 (by decide +kernel)).trans (V3_codes m ρ c)
theorem W4_sums (c : Dev nD) : W4 m ρ c main_v4_1 = sums (flatD m c) :=
  (W4_of m ρ c main_v4_1 (by decide +kernel)).trans ((W3_of m ρ c main_v4_1 (by decide)).trans (W2_sums m ρ c))
theorem W4_maxes (c : Dev nD) : W4 m ρ c main_v4_2 = maxes (flatD m c) :=
  (W4_of m ρ c main_v4_2 (by decide +kernel)).trans ((W3_of m ρ c main_v4_2 (by decide)).trans (W2_maxes m ρ c))
theorem W4_x (c : Dev nD) : W4 m ρ c main_v1 = flatX m c :=
  (W4_of m ρ c main_v1 (by decide +kernel)).trans ((W3_of m ρ c main_v1 (by decide)).trans (W2_x m ρ c))

/-! ## What the third region is entered with and leaves -/

theorem V5_codes (c : Dev nD) : V5 m ρ c main_v4_0 = codes (flatD m c) (invS m c) :=
  (W5_of m ρ c main_v4_0 (by decide)).trans (W4_codes m ρ c)
theorem V5_x (c : Dev nD) : V5 m ρ c main_v1 = flatX m c := (W5_of m ρ c main_v1 (by decide)).trans (W4_x m ρ c)
theorem V5_acc (c : Dev nD) : V5 m ρ c main_arg6 = m ((c : Thread nD τ).loc main_arg6) := W5_args m ρ c main_arg6 (by decide)
theorem V5_scale (c : Dev nD) : V5 m ρ c main_v9 = scaleX m c := by
  change StableHlo.after hostOps2 (W4 m ρ c) _ = _
  after_results
  rw [W4_args m ρ c main_arg1 (by decide), W4_args m ρ c main_arg3 (by decide)]
  rfl

theorem W6_mg (c : Dev nD) : W6 m ρ c main_v10
    = mg (codes (flatD m c) (invS m c)) (flatX m c) (scaleX m c) (m ((c : Thread nD τ).loc main_arg6)) := by
  refine (W6_arr m ρ c 4).trans ?_
  rw [final2, V5_codes, V5_x, V5_scale, V5_acc]
theorem W6_codes (c : Dev nD) : W6 m ρ c main_v4_0 = codes (flatD m c) (invS m c) :=
  (W6_of m ρ c main_v4_0 (by decide +kernel)).trans (V5_codes m ρ c)
theorem W6_sums (c : Dev nD) : W6 m ρ c main_v4_1 = sums (flatD m c) :=
  (W6_of m ρ c main_v4_1 (by decide +kernel)).trans ((W5_of m ρ c main_v4_1 (by decide)).trans (W4_sums m ρ c))
theorem W6_maxes (c : Dev nD) : W6 m ρ c main_v4_2 = maxes (flatD m c) :=
  (W6_of m ρ c main_v4_2 (by decide +kernel)).trans ((W5_of m ρ c main_v4_2 (by decide)).trans (W4_maxes m ρ c))
theorem W6_dx (c : Dev nD) : W6 m ρ c main_v7
    = dx (codes (flatD m c) (invS m c)) (m ((c : Thread nD τ).loc main_arg4)) (scaleW m c) :=
  (W6_of m ρ c main_v7 (by decide +kernel)).trans ((W5_of m ρ c main_v7 (by decide)).trans (W4_dx m ρ c))

/-! ## The results -/

/-- The gradient of the input. -/
def outDx (c : Dev nD) : Vec Ideal S6x1536x6144 .bf16 :=
  shapeCast S6x1536x6144 (dx (codes (flatD m c) (invS m c)) (m ((c : Thread nD τ).loc main_arg4)) (scaleW m c))
    shapeCasts_S9216x6144_S6x1536x6144
/-- The accumulated gradient of the weights. -/
def outMg (c : Dev nD) : Vec Ideal S16384x6144 .f32 :=
  mg (codes (flatD m c) (invS m c)) (flatX m c) (scaleX m c) (m ((c : Thread nD τ).loc main_arg6))
/-- The gradient of the bias. -/
def outBias (c : Dev nD) : Vec Ideal S16384 .f32 :=
  Host.reduceAdd (F := Ideal) (sums (flatD m c)) (constant S_ .f32 0x00000000#32) reducesTo_S8x16384_S16384_d0 h_S_
/-- The gradient's greatest magnitude. -/
def outAmax (c : Dev nD) : Vec Ideal S_ .f32 :=
  Host.reduce (FloatOps.maximumf (F := Ideal) (φ := .f32)) (maxes (flatD m c)) (constant (F := Ideal) S_ .f32 0xFF800000#32)
    reducesTo_S8x16384_S_d0_1 h_S_
/-- The gradient's codes. -/
def outCodes (c : Dev nD) : Vec Ideal S6x1536x16384 .fp8e5m2 :=
  shapeCast S6x1536x16384 (codes (flatD m c) (invS m c)) shapeCasts_S9216x16384_S6x1536x16384

theorem W7_mg (c : Dev nD) : W7 m ρ c main_v10 = outMg m c :=
  (W7_of m ρ c main_v10 (by decide)).trans (W6_mg m ρ c)
theorem W7_dx (c : Dev nD) : W7 m ρ c main_v11 = outDx m c := by
  change StableHlo.after hostOps3 (W6 m ρ c) _ = _
  after_results
  rw [W6_dx]
  rfl
theorem W7_bias (c : Dev nD) : W7 m ρ c main_v12 = outBias m c := by
  change StableHlo.after hostOps3 (W6 m ρ c) _ = _
  after_results
  rw [W6_sums]
  rfl
theorem W7_amax (c : Dev nD) : W7 m ρ c main_v13 = outAmax m c := by
  change StableHlo.after hostOps3 (W6 m ρ c) _ = _
  after_results
  rw [W6_maxes]
  rfl
theorem W7_codes (c : Dev nD) : W7 m ρ c main_v14 = outCodes m c := by
  change StableHlo.after hostOps3 (W6 m ρ c) _ = _
  after_results
  rw [W6_codes]
  rfl

end Cert.KernelIdeal.Value

end
-- ==== Proof.Equations.lean ====
/- The kernel works on the tokens as one axis of 9216, the reference on an axis of 6 and one of 1536: the two read the same elements,
   and a sum or a maximum over the one is the sum or the maximum over the other. -/
module

public import proofs.«01_k».proof.Proof.KernelValue

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.SL.Sem

/-- The token at place `b` of sequence `a`. -/
def token (a : Fin 6) (b : Fin 1536) : Fin 9216 := ⟨a.val * 1536 + b.val, by omega⟩

theorem token_div (a : Fin 6) (b : Fin 1536) (h) : (⟨(token a b).val / 1536, h⟩ : Fin 6) = a := by
  apply Fin.ext; simp only [token]; omega
theorem token_mod (a : Fin 6) (b : Fin 1536) (h) : (⟨(token a b).val % 1536, h⟩ : Fin 1536) = b := by
  apply Fin.ext; simp only [token]; omega

theorem flat_16384 {e : EltTy} (D : Vec Ideal S6x1536x16384 e) (a : Fin 6) (b : Fin 1536) (l : Fin 16384) :
    shapeCast S9216x16384 D shapeCasts_S6x1536x16384_S9216x16384 (ix2 (token a b) l) = D (ix3 a b l) := by
  pointwise
  rw [token_div, token_mod]

theorem flat_6144 {e : EltTy} (D : Vec Ideal S6x1536x6144 e) (a : Fin 6) (b : Fin 1536) (l : Fin 6144) :
    shapeCast S9216x6144 D shapeCasts_S6x1536x6144_S9216x6144 (ix2 (token a b) l) = D (ix3 a b l) := by
  pointwise
  rw [token_div, token_mod]

theorem unflat_16384 {e : EltTy} (D : Vec Ideal S9216x16384 e) (a : Fin 6) (b : Fin 1536) (l : Fin 16384) :
    shapeCast S6x1536x16384 D shapeCasts_S9216x16384_S6x1536x16384 (ix3 a b l) = D (ix2 (token a b) l) := by
  pointwise
  rfl

theorem unflat_6144 {e : EltTy} (D : Vec Ideal S9216x6144 e) (a : Fin 6) (b : Fin 1536) (l : Fin 6144) :
    shapeCast S6x1536x6144 D shapeCasts_S9216x6144_S6x1536x6144 (ix3 a b l) = D (ix2 (token a b) l) := by
  pointwise
  rfl

/-- A sum over the tokens, sequence by sequence. -/
theorem sum_token (f : Fin 9216 → EReal) : ∑ l, f l = ∑ a : Fin 6, ∑ b : Fin 1536, f (token a b) :=
  (Fin.sum_mul_add_congr fun a b _ => rfl).symm

/-- A sum over the tokens, by their remainder modulo eight. -/
theorem sum_group (f : Fin 9216 → EReal) : ∑ r : Fin 8, ∑ q : Fin 1152, f ⟨q.val * 8 + r.val, token_lt q r⟩ = ∑ l, f l := by
  rw [Finset.sum_comm]
  exact Fin.sum_mul_add_congr fun q r _ => rfl

/-- The token a flat index stands for. -/
theorem token_of (l : Fin 9216) : ∃ a b, token a b = l :=
  ⟨⟨l.val / 1536, by omega⟩, ⟨l.val % 1536, by omega⟩, Fin.ext (by simp only [token]; omega)⟩

theorem token_split (l : Fin 9216) (h) : (⟨l.val / 8 * 8 + l.val % 8, h⟩ : Fin 9216) = l := Fin.ext (by show l.val / 8 * 8 + l.val % 8 = l.val; omega)

/-- The codes. -/
theorem codes_eq (D : Vec Ideal S6x1536x16384 .bf16) (s : Vec Ideal S1 .f32) (i : S6x1536x16384.Idx) :
    shapeCast S6x1536x16384 (codes (shapeCast S9216x16384 D shapeCasts_S6x1536x16384_S9216x16384) s)
      shapeCasts_S9216x16384_S6x1536x16384 i = clip (D i) (s (ix1 0)) := by
  obtain ⟨a, b, l, rfl⟩ : ∃ (a : Fin 6) (b : Fin 1536) (l : Fin 16384), i = ix3 a b l := ⟨i 0, i 1, i 2, eq_ix3 i⟩
  rw [unflat_16384]
  unfold codes
  rw [flat_16384]

/-- The gradient of the input. -/
theorem dx_eq (D : Vec Ideal S6x1536x16384 .bf16) (s t : Vec Ideal S1 .f32) (W : Vec Ideal S16384x6144 .fp8e4m3)
    (i : S6x1536x6144.Idx) :
    shapeCast S6x1536x6144 (dx (codes (shapeCast S9216x16384 D shapeCasts_S6x1536x16384_S9216x16384) s) W t)
      shapeCasts_S9216x6144_S6x1536x6144 i
    = (∑ l : Fin 16384, clip (D (ix3 (i 0) (i 1) l)) (s (ix1 0)) * W (ix2 l (i 2))) * t (ix1 0) := by
  obtain ⟨a, b, k, rfl⟩ : ∃ (a : Fin 6) (b : Fin 1536) (k : Fin 6144), i = ix3 a b k := ⟨i 0, i 1, i 2, eq_ix3 i⟩
  rw [unflat_6144]
  unfold dx codes
  refine congrArg (· * t (ix1 0)) (Finset.sum_congr rfl fun l _ => ?_)
  simp only [ix2_0, ix2_1, ix3_0, ix3_1, ix3_2]
  rw [flat_16384]

/-- The accumulated gradient of the weights. -/
theorem mg_eq (D : Vec Ideal S6x1536x16384 .bf16) (s t : Vec Ideal S1 .f32) (X : Vec Ideal S6x1536x6144 .fp8e4m3)
    (M : Vec Ideal S16384x6144 .f32) (i : S16384x6144.Idx) :
    mg (codes (shapeCast S9216x16384 D shapeCasts_S6x1536x16384_S9216x16384) s)
      (shapeCast S9216x6144 X shapeCasts_S6x1536x6144_S9216x6144) t M i
    = M i + (∑ a : Fin 6, ∑ b : Fin 1536, clip (D (ix3 a b (i 0))) (s (ix1 0)) * X (ix3 a b (i 1))) * t (ix1 0) := by
  obtain ⟨n, k, rfl⟩ : ∃ (n : Fin 16384) (k : Fin 6144), i = ix2 n k := ⟨i 0, i 1, (ix2_eta i).symm⟩
  unfold mg codes
  rw [sum_token]
  refine congrArg (fun x => M (ix2 n k) + x * t (ix1 0)) (Finset.sum_congr rfl fun a _ => Finset.sum_congr rfl fun b _ => ?_)
  simp only [ix2_0, ix2_1]
  rw [flat_16384, flat_6144]

/-- The column sums of the partial sums. -/
theorem bias_sums (E : Vec Ideal S9216x16384 .bf16) (n : Fin 16384) :
    (Host.reduceAdd (F := Ideal) (sums E) (constant S_ .f32 0x00000000#32) reducesTo_S8x16384_S16384_d0 h_S_ : Vec Ideal S16384 .f32) (ix1 n)
    = 0 + ∑ r : Fin 8, ∑ q : Fin 1152, E (ix2 ⟨q.val * 8 + r.val, token_lt q r⟩ n) := by
  pointwise
  rfl

/-- The gradient of the bias. -/
theorem bias_eq (D : Vec Ideal S6x1536x16384 .bf16) (i : S16384.Idx) :
    (Host.reduceAdd (F := Ideal) (sums (shapeCast S9216x16384 D shapeCasts_S6x1536x16384_S9216x16384)) (constant S_ .f32 0x00000000#32)
      reducesTo_S8x16384_S16384_d0 h_S_ : Vec Ideal S16384 .f32) i
    = 0 + ∑ a : Fin 6, ∑ b : Fin 1536, D (ix3 a b (i 0)) := by
  obtain ⟨n, rfl⟩ : ∃ n : Fin 16384, i = ix1 n := ⟨i 0, (ix1_eta i).symm⟩
  have h := sum_group fun l => shapeCast S9216x16384 D shapeCasts_S6x1536x16384_S9216x16384 (ix2 l n)
  rw [sum_token] at h
  refine Eq.trans (b := 0 + ∑ a : Fin 6, ∑ b : Fin 1536,
    shapeCast S9216x16384 D shapeCasts_S6x1536x16384_S9216x16384 (ix2 (token a b) n)) ?_ ?_
  · exact (bias_sums _ n).trans (congrArg (0 + ·) h)
  · refine congrArg (0 + ·) (Finset.sum_congr rfl fun a _ => Finset.sum_congr rfl fun b _ => ?_)
    exact flat_16384 D a b n

/-- The greatest magnitude. -/
theorem amax_eq (D : Vec Ideal S6x1536x16384 .bf16) (i : S_.Idx) :
    (Host.reduce (FloatOps.maximumf (F := Ideal) (φ := .f32)) (maxes (shapeCast S9216x16384 D shapeCasts_S6x1536x16384_S9216x16384))
      (constant (F := Ideal) S_ .f32 0xFF800000#32) reducesTo_S8x16384_S_d0_1 h_S_ : Vec Ideal S_ .f32) i
    = Finset.univ.fold max (Ideal.ofBits .f32 0xFF800000#32)
        fun k : Fin 6 × Fin 1536 × Fin 16384 => max (D (ix3 k.1 k.2.1 k.2.2)) (-(D (ix3 k.1 k.2.1 k.2.2))) := by
  pointwise
  unfold maxes
  refine eq_of_forall_ge_iff (α := EReal) fun b => ?_
  simp only [Finset.fold_max_le, Finset.mem_univ, true_implies]
  refine and_congr_right fun _ => ⟨fun h k => ?_, fun h k => ⟨?_, fun q => ?_⟩⟩
  · obtain ⟨a, b', l⟩ := k
    have hk := (h (⟨(token a b').val % 8, by omega⟩, l)).2 ⟨(token a b').val / 8, by omega⟩
    simp only [ix2_0, ix2_1] at hk
    rw [token_split, flat_16384] at hk
    exact hk
  · exact (mag_nonneg _).trans (h (0, 0, 0))
  · obtain ⟨r, l⟩ := k
    obtain ⟨a, b', e⟩ := token_of ⟨q.val * 8 + r.val, token_lt q r⟩
    simp only [ix2_0, ix2_1]
    rw [← e, flat_16384]
    exact h (a, b', l)

end Cert.KernelIdeal.Value

end
-- ==== Proof.RefRegion.lean ====
/- What the reference's one launch leaves in its four output arrays: the codes, the codes widened, and the weights and the activations
   widened. -/
module

public import proofs.«01_k».proof.Proof.Gen.ReferenceIdeal.Frame
public import Idealize.ShloMosaic.Lib.Claim
public import Idealize.ShloMosaic.Lib.Pipeline.ValueKit
public import Idealize.ShloMosaic.Lib.Pipeline.ReadBack

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- The launch has one point, whose blocks are the whole arrays. -/
theorem idx : ∀ t : Fin cfg0.N, win0_0.index t = ![0] ∧ win0_1.index t = ![0, 0, 0] ∧ win0_2.index t = ![0, 0]
    ∧ win0_3.index t = ![0, 0, 0] :=
  (by decide +kernel : ∀ t : Fin grid0.N, _)

/-- A code: the scaled value, clipped. -/
def clip (x s : EReal) : EReal := min (Ideal.ofBits .f32 0x47600000#32) (max (Ideal.ofBits .f32 0xC7600000#32) (x * s))

/-- The array of codes. -/
def codes (D : Vec Ideal S6x1536x16384 .f32) (s : Vec Ideal S1 .f32) : Vec Ideal S6x1536x16384 .fp8e5m2 :=
  fun i => clip (D i) (s (ix1 0))

/-- A row of one element has one index. -/
theorem idx_one (i j : S1.Idx) : i = j := by
  have h : ∀ a : Fin S1.rank, S1.size a = 1 := by decide
  have hb : ∀ i : S1.Idx, ∀ a, (i a : ℕ) = 0 := fun i a => by have := (i a).isLt; have := h a; omega
  exact funext fun a => Fin.ext ((hb i a).trans (hb j a).symm)

theorem quant (D : Vec Ideal S6x1536x16384 .f32) (s : EReal) (i) : k0_pay1 D s i = clip (D i) s := by
  unfold clip
  pointwise [k0_pay1]

theorem final_4 (c : Dev nD) : (dats m 0 c).arrAt 4 cfg0.N = codes (V m c main_v0) (V m c main_v5) := by
  refine (dats m 0 c).arrAt_eq_of_after_last 4 t0_0 (by decide +kernel) _ fun j => ?_
  blk_simp
  rw [after0_4]
  unfold outsAt0
  frame_out
  simp only [read_unread_whole]
  rw [quant]
  unfold codes
  refine congrArg₂ clip ?_ ?_
  · blk_point [iblk, V, idx t0_0]
  · rw [idx_one (Shape.Idx.first _) (ix1 0)]
    blk_point [iblk, V, idx t0_0]

theorem final_5 (c : Dev nD) : (dats m 0 c).arrAt 5 cfg0.N
    = (show Vec Ideal S6x1536x16384 .bf16 from codes (V m c main_v0) (V m c main_v5)) := by
  refine (dats m 0 c).arrAt_eq_of_after_last 5 t0_0 (by decide +kernel) _ fun j => ?_
  blk_simp
  rw [after0_5]
  unfold outsAt0
  frame_out
  simp only [read_unread_whole]
  change k0_pay1 (F := Ideal) _ _ _ = _
  rw [quant]
  unfold codes
  refine congrArg₂ clip ?_ ?_
  · blk_point [iblk, V, idx t0_0]
  · rw [idx_one (Shape.Idx.first _) (ix1 0)]
    blk_point [iblk, V, idx t0_0]

theorem final_6 (c : Dev nD) : (dats m 0 c).arrAt 6 cfg0.N
    = (show Vec Ideal S16384x6144 .bf16 from (V m c main_arg4 : Vec Ideal S16384x6144 .fp8e4m3)) := by
  refine (dats m 0 c).arrAt_eq_of_after_last 6 t0_0 (by decide +kernel) _ fun j => ?_
  blk_simp
  rw [after0_6]
  unfold outsAt0
  frame_out
  simp only [read_unread_whole]
  pointwise [k0_pay3]
  blk_point [iblk, V, idx t0_0]

theorem final_7 (c : Dev nD) : (dats m 0 c).arrAt 7 cfg0.N
    = (show Vec Ideal S6x1536x6144 .bf16 from (V m c main_arg2 : Vec Ideal S6x1536x6144 .fp8e4m3)) := by
  refine (dats m 0 c).arrAt_eq_of_after_last 7 t0_0 (by decide +kernel) _ fun j => ?_
  blk_simp
  rw [after0_7]
  unfold outsAt0
  frame_out
  simp only [read_unread_whole]
  pointwise [k0_pay4]
  blk_point [iblk, V, idx t0_0]

end Cert.ReferenceIdeal.Value

end
-- ==== Proof.RefValue.lean ====
/- The reference's five results as functions of its arguments, read at an index. -/
module

public import proofs.«01_k».proof.Proof.RefRegion

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The gradient. -/
abbrev argD (c : Dev nD) : Vec Ideal S6x1536x16384 .bf16 := m ((c : Thread nD τ).loc main_arg0)
/-- The gradient's scale. -/
abbrev argS (c : Dev nD) : Vec Ideal S_ .f32 := m ((c : Thread nD τ).loc main_arg1)
/-- The activations. -/
abbrev argX (c : Dev nD) : Vec Ideal S6x1536x6144 .fp8e4m3 := m ((c : Thread nD τ).loc main_arg2)
/-- The activations' scale. -/
abbrev argXs (c : Dev nD) : Vec Ideal S_ .f32 := m ((c : Thread nD τ).loc main_arg3)
/-- The weights. -/
abbrev argW (c : Dev nD) : Vec Ideal S16384x6144 .fp8e4m3 := m ((c : Thread nD τ).loc main_arg4)
/-- The weights' scale. -/
abbrev argWs (c : Dev nD) : Vec Ideal S_ .f32 := m ((c : Thread nD τ).loc main_arg5)
/-- The gradient accumulated so far. -/
abbrev argM (c : Dev nD) : Vec Ideal S16384x6144 .f32 := m ((c : Thread nD τ).loc main_arg6)

theorem V_v0 (c : Dev nD) : V m c main_v0 = (show Vec Ideal S6x1536x16384 .f32 from argD m c) := by
  change StableHlo.after hostOps0 _ (Proc.devRef .tc _) = _
  after_results
  rfl
theorem V_v5 (c : Dev nD) : V m c main_v5 = shapeCast S1
    ((Host.divf (F := Ideal) (s := S_) (φ := .f32) (constant S_ .f32 0x3F800000#32) (argS m c) : Vec Ideal S_ .f32)) shapeCasts_S_S1 := by
  change StableHlo.after hostOps0 _ (Proc.devRef .tc _) = _
  after_results
  rfl

/-- The codes in terms of the arguments. -/
def code (c : Dev nD) : Vec Ideal S6x1536x16384 .fp8e5m2 :=
  fun i => clip (argD m c i) (Host.divf (F := Ideal) (s := S_) (φ := .f32) (constant S_ .f32 0x3F800000#32) (argS m c) ix0)

theorem codes_V (c : Dev nD) : codes (V m c main_v0) (V m c main_v5) = code m c := by
  rw [V_v0, V_v5]
  funext i
  unfold codes code
  refine congrArg₂ clip rfl ?_
  pointwise

/-- The buffers when the launch ends: its arrays as it leaves them, every other buffer as it found it. -/
def exit (c : Dev nD) : Valuation τ sig (Elt Ideal) :=
  Pipeline.withArrays spec0 c (V0 m c) fun w => (dats m 0 c).arrAt w cfg0.N

theorem exit_arr (c : Dev nD) (w : Fin cfg0.W) :
    exit m c (Proc.devRef .tc (Pipeline.arrRef spec0 w)) = (dats m 0 c).arrAt w cfg0.N := by
  unfold exit; exact Pipeline.withArrays_arr spec0 launch0.win.arr_inj c _ _ w

theorem exit_of_ne (c : Dev nD) (b : Ref sig .tc) (hb : ∀ w, Pipeline.arrRef spec0 w ≠ b) :
    exit m c (Proc.devRef .tc b) = V m c b := by
  unfold exit; exact Pipeline.withArrays_of_ne spec0 c _ _ b hb

theorem tail_eq (c : Dev nD) (b : Ref sig .tc) :
    Pipeline.afterTail₀ cfgs (dats m) 0 (V0 m) [hostOps1] c b = StableHlo.after hostOps1 (exit m c) (Proc.devRef .tc b) := rfl

theorem exit_dy (c : Dev nD) : exit m c (Proc.devRef .tc main_v6_1) = (show Vec Ideal S6x1536x16384 .bf16 from code m c) := by
  refine (exit_arr m c 5).trans ?_
  rw [final_5, codes_V]
theorem exit_w (c : Dev nD) : exit m c (Proc.devRef .tc main_v6_2) = (show Vec Ideal S16384x6144 .bf16 from argW m c) := by
  refine (exit_arr m c 6).trans ?_
  rw [final_6, V_main_arg4]
theorem exit_x (c : Dev nD) : exit m c (Proc.devRef .tc main_v6_3) = (show Vec Ideal S6x1536x6144 .bf16 from argX m c) := by
  refine (exit_arr m c 7).trans ?_
  rw [final_7, V_main_arg2]
theorem exit_s (c : Dev nD) : exit m c (Proc.devRef .tc main_arg1) = argS m c :=
  (exit_of_ne m c main_arg1 (by decide +kernel)).trans (V_main_arg1 m c)
theorem exit_xs (c : Dev nD) : exit m c (Proc.devRef .tc main_arg3) = argXs m c :=
  (exit_of_ne m c main_arg3 (by decide +kernel)).trans (V_main_arg3 m c)
theorem exit_ws (c : Dev nD) : exit m c (Proc.devRef .tc main_arg5) = argWs m c :=
  (exit_of_ne m c main_arg5 (by decide +kernel)).trans (V_main_arg5 m c)
theorem exit_m (c : Dev nD) : exit m c (Proc.devRef .tc main_arg6) = argM m c :=
  (exit_of_ne m c main_arg6 (by decide +kernel)).trans (V_main_arg6 m c)

section leading
variable {n0 n1 n2 : Nat} {t : Shape}

theorem rank_leading (h : (⟨3, ![n0, n1, n2]⟩ : Shape).ReducesTo [0, 1] t) : t.rank = 1 := h.1
theorem lt_leading (h : (⟨3, ![n0, n1, n2]⟩ : Shape).ReducesTo [0, 1] t) : 0 < t.rank := rank_leading h ▸ (by decide)
theorem size_leading (h : (⟨3, ![n0, n1, n2]⟩ : Shape).ReducesTo [0, 1] t) : t.size ⟨0, lt_leading h⟩ = n2 := h.2 ⟨0, lt_leading h⟩

/-- The coordinate of the last axis that a sum over the two leading axes of three keeps. -/
def kept (h : (⟨3, ![n0, n1, n2]⟩ : Shape).ReducesTo [0, 1] t) (j : t.Idx) : Fin n2 :=
  ⟨(j ⟨0, lt_leading h⟩).val, Shape.coordLt (j ⟨0, lt_leading h⟩) (size_leading h)⟩

/-- The indices that a sum over the two leading axes takes to `j` are those with `j`'s coordinate on the last axis. -/
theorem fiber_leading (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 (kept h j) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt_leading h⟩)).symm
  · rintro ⟨k, rfl⟩
    funext b
    apply Fin.ext
    match b with
    | ⟨0, _⟩ => rfl
    | ⟨_ + 1, hb⟩ => exact absurd hb (by have := rank_leading h; omega)

/-- A sum over the two leading axes of three. -/
theorem sum_leading (h : (⟨3, ![n0, n1, n2]⟩ : Shape).ReducesTo [0, 1] t) (v : (⟨3, ![n0, n1, n2]⟩ : Shape).Idx → EReal)
    (init : EReal) (j : t.Idx) : Ideal.hostReduceAdd h v init j = init + ∑ a : Fin n0, ∑ b : Fin n1, v (ix3 a b (kept h j)) := by
  refine congrArg (init + ·) ((Finset.sum_filter_eq_sum_of_fiber _ (fun k : Fin n0 × Fin n1 => ix3 k.1 k.2 (kept h j))
    (fun _ _ e => Prod.ext (congrFun e 0) (congrFun e 1)) (fiber_leading h j) v).trans ?_)
  simp only [Fintype.sum_prod_type]

end leading

theorem r_amax (c : Dev nD) : Pipeline.afterTail₀ cfgs (dats m) 0 (V0 m) [hostOps1] c main_v2
    = (show Vec Ideal S_ .f32 from fun _ => Finset.univ.fold max (Ideal.ofBits .f32 0xFF800000#32)
        fun k : Fin 6 × Fin 1536 × Fin 16384 => max (argD m c (ix3 k.1 k.2.1 k.2.2)) (-(argD m c (ix3 k.1 k.2.1 k.2.2)))) := by
  rw [tail_eq]
  after_results
  rw [exit_of_ne m c main_v2 (by decide +kernel)]
  change StableHlo.after hostOps0 _ (Proc.devRef .tc _) = _
  after_results
  funext i
  pointwise
  rfl

theorem r_bias (c : Dev nD) : Pipeline.afterTail₀ cfgs (dats m) 0 (V0 m) [hostOps1] c main_v3
    = (show Vec Ideal S16384 .f32 from fun i => 0 + ∑ a : Fin 6, ∑ b : Fin 1536, argD m c (ix3 a b (i 0))) := by
  rw [tail_eq]
  after_results
  rw [exit_of_ne m c main_v3 (by decide +kernel)]
  change StableHlo.after hostOps0 _ (Proc.devRef .tc _) = _
  after_results
  funext i
  refine (sum_leading (n0 := 6) (n1 := 1536) (n2 := 16384) _ _ _ i).trans ?_
  pointwise
  rfl

theorem r_codes (c : Dev nD) : (dats m 0 c).arrAt 4 cfg0.N = code m c := by rw [final_4, codes_V]

theorem r_dx (c : Dev nD) : Pipeline.afterTail₀ cfgs (dats m) 0 (V0 m) [hostOps1] c main_v11
    = (show Vec Ideal S6x1536x6144 .bf16 from fun i => (∑ l : Fin 16384, code m c (ix3 (i 0) (i 1) l) * argW m c (ix2 l (i 2)))
        * (argS m c ix0 * argWs m c ix0)) := by
  rw [tail_eq]
  after_results
  rw [exit_dy, exit_w, exit_s, exit_ws]
  funext i
  pointwise

theorem r_mg (c : Dev nD) : Pipeline.afterTail₀ cfgs (dats m) 0 (V0 m) [hostOps1] c main_v16
    = (show Vec Ideal S16384x6144 .f32 from fun i => argM m c i
        + (∑ a : Fin 6, ∑ b : Fin 1536, code m c (ix3 a b (i 0)) * argX m c (ix3 a b (i 1))) * (argS m c ix0 * argXs m c ix0)) := by
  rw [tail_eq]
  after_results
  rw [exit_dy, exit_x, exit_s, exit_xs, exit_m]
  funext i
  pointwise

end Cert.ReferenceIdeal.Value

end
-- ==== Proof.Algebraic.lean ====
/- The two programs' results are equal over the extended reals. -/
module

public import proofs.«01_k».proof.Proof.KernelValue
public import proofs.«01_k».proof.Proof.Equations
public import proofs.«01_k».proof.Proof.RefValue
public import proofs.«01_k».proof.Defs

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.SL.Sem
open Idealize.ShloMosaic.StableHlo

/-- The run, read at the five results and at the arguments. -/
theorem run_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11) = outDx m c
      ∧ r.2.mem ((c.tc : Thread nD τ).loc main_v10) = outMg m c
      ∧ r.2.mem ((c.tc : Thread nD τ).loc main_v12) = outBias m c
      ∧ r.2.mem ((c.tc : Thread nD τ).loc main_v13) = outAmax m c
      ∧ r.2.mem ((c.tc : Thread nD τ).loc main_v14) = outCodes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h.1 c _ (mem_uc main_v11 (by decide))).trans (W7_dx m ρ c), (h.1 c _ (mem_uc main_v10 (by decide))).trans (W7_mg m ρ c), (h.1 c _ (mem_uc main_v12 (by decide))).trans (W7_bias m ρ c),
       (h.1 c _ (mem_uc main_v13 (by decide))).trans (W7_amax m ρ c), (h.1 c _ (mem_uc main_v14 (by decide))).trans (W7_codes m ρ c),
       (h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c),
       (h.1 c _ (mem_uc main_arg6 (by decide))).trans (W7_main_arg6 m ρ c)⟩) (run m ρ)

/-- A reshape of a scalar to one element holds the scalar. -/
theorem one_scalar (x : Vec Ideal S_ .f32) : shapeCast S1 x shapeCasts_S_S1 (ix1 0) = x ix0 := by pointwise

theorem invS_eq (m : (ℓ : Loc nD τ sig) → Buf (Elt Ideal) ℓ) (c : Dev nD) : invS m c (ix1 0)
    = Host.divf (F := Ideal) (s := S_) (φ := .f32) (constant S_ .f32 0x3F800000#32) (m ((c : Thread nD τ).loc main_arg1)) ix0 := one_scalar _
theorem scaleW_eq (m : (ℓ : Loc nD τ sig) → Buf (Elt Ideal) ℓ) (c : Dev nD) : scaleW m c (ix1 0)
    = (show Vec Ideal S_ .f32 from m ((c : Thread nD τ).loc main_arg1)) ix0 * (show Vec Ideal S_ .f32 from m ((c : Thread nD τ).loc main_arg5)) ix0 :=
  one_scalar _
theorem scaleX_eq (m : (ℓ : Loc nD τ sig) → Buf (Elt Ideal) ℓ) (c : Dev nD) : scaleX m c (ix1 0)
    = (show Vec Ideal S_ .f32 from m ((c : Thread nD τ).loc main_arg1)) ix0 * (show Vec Ideal S_ .f32 from m ((c : Thread nD τ).loc main_arg3)) ix0 :=
  one_scalar _

/-- From arguments that agree, the kernel and the reference end with the same five results: the gradient of the input, the
    accumulated gradient of the weights, the gradient of the bias, the greatest magnitude, and the codes. -/
theorem algebraic : Cert.algebraic_KernelIdeal_ReferenceIdeal := by
  intro m g m' g' hpre hagree
  refine ⟨_, _, _, _, _, run_results m g, ?_⟩
  run_from Cert.ReferenceIdeal.Gen.run_main m' g'
  all_goals obtain ⟨h0, h1, h2, h3, h4, h5, h6⟩ := hagree c
  · refine (ReferenceIdeal.Value.r_dx m' c).trans ?_
    funext i
    refine Eq.trans ?_ (dx_eq _ _ _ _ i).symm
    rw [invS_eq, scaleW_eq, ← h0, ← h1, ← h4, ← h5]
    rfl
  · refine (ReferenceIdeal.Value.r_mg m' c).trans ?_
    funext i
    refine Eq.trans ?_ (mg_eq _ _ _ _ _ i).symm
    rw [invS_eq, scaleX_eq, ← h0, ← h1, ← h2, ← h3, ← h6]
    rfl
  · refine (ReferenceIdeal.Value.r_bias m' c).trans ?_
    funext i
    refine Eq.trans ?_ (bias_eq _ i).symm
    rw [← h0]
  · refine (ReferenceIdeal.Value.r_amax m' c).trans ?_
    funext i
    refine Eq.trans ?_ (amax_eq _ i).symm
    rw [← h0]
  · refine (ReferenceIdeal.Value.r_codes m' c).trans ?_
    funext i
    refine Eq.trans ?_ (codes_eq _ _ i).symm
    rw [invS_eq, ← h0, ← h1]
    rfl
  · exact (ReferenceIdeal.Gen.W_main_arg0 m' _ c).trans h0
  · exact (ReferenceIdeal.Gen.W_main_arg1 m' _ c).trans h1
  · exact (ReferenceIdeal.Gen.W_main_arg3 m' _ c).trans h3
  · exact (ReferenceIdeal.Gen.W_main_arg5 m' _ c).trans h5
  · exact (ReferenceIdeal.Gen.W_main_arg6 m' _ c).trans h6

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Whole.Run
public import proofs.«01_k».proof.Proof.Whole.Bits
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel.Whole.frame, fun m ρ _ => Cert.KernelIdeal.Whole.frame m ρ, fun m ρ _ => Cert.ReferenceIdeal.Gen.frame m ρ,
  trivial, Cert.KernelIdeal.Value.algebraic⟩

end Cert.Proof

end
